-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 256]⟩ ⟨2, ![1024, 256]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def holds_ReferenceIdeal_near_the_gathered_array [hReferenceIdeal : Cert.ReferenceIdeal.Facts] [hPost_near_the_gathered_array : Cert.Post_near_the_gathered_array.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ (Cert.Post_near_the_gathered_array.fn (F := Ideal) (m ((c.tc : Thread Cert.ReferenceIdeal.nD Cert.ReferenceIdeal.τ).loc Cert.ReferenceIdeal.main_arg0)) (r.2.mem ((c.tc : Thread Cert.ReferenceIdeal.nD Cert.ReferenceIdeal.τ).loc Cert.ReferenceIdeal.main_v16))) = (fun _ => 1#1))

def Claim : Prop :=
  ∃ (hKernel : Cert.Kernel.Facts) (hKernelIdeal : Cert.KernelIdeal.Facts) (hReferenceIdeal : Cert.ReferenceIdeal.Facts) (hPost_near_the_gathered_array : Cert.Post_near_the_gathered_array.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_ReferenceIdeal_near_the_gathered_array (hReferenceIdeal := hReferenceIdeal) (hPost_near_the_gathered_array := hPost_near_the_gathered_array)
-- ==== Post_near_the_gathered_array.lean ====
abbrev S512x256 : Shape := ⟨2, ![512, 256]⟩
abbrev S1024x256 : Shape := ⟨2, ![1024, 256]⟩
abbrev S_ : Shape := ⟨0, ![]⟩

class Facts : Prop where
  concatenates_S512x256_S512x256_S1024x256_d0 : Shape.Concatenates [S512x256, S512x256] S1024x256 0
  bcast_S_S1024x256 : S_.BroadcastsInDim S1024x256 (![] : Fin 0 → Fin S1024x256.rank)

variable [Facts]

def fn {F : FTy → Type} [FloatOps F] (main_arg0 : FVec F S512x256 .f32) (main_arg1 : FVec F S1024x256 .f32) : IVec S1024x256 1 :=
  let main_v0 : FVec F S1024x256 .f32 := (fun a b => concatenate S1024x256 0 [⟨S512x256, a⟩, ⟨S512x256, b⟩] concatenates_S512x256_S512x256_S1024x256_d0) main_arg0 main_arg0
  let main_v1 : FVec F S1024x256 .f32 := Host.absf main_v0
  let main_cst : FVec F S_ .f32 := constant S_ .f32 0x40A00000#32
  let main_v2 : FVec F S1024x256 .f32 := broadcastInDim S1024x256 ![] bcast_S_S1024x256 main_cst
  let main_v3 : IVec S1024x256 1 := cmpf .ogt main_v1 main_v2
  let main_v4 : FVec F S1024x256 .f32 := subf main_arg1 main_v0
  let main_v5 : FVec F S1024x256 .f32 := Host.absf main_v4
  let main_cst_0 : FVec F S_ .f32 := constant S_ .f32 0x3CA161E5#32
  let main_v6 : FVec F S1024x256 .f32 := broadcastInDim S1024x256 ![] bcast_S_S1024x256 main_cst_0
  let main_v7 : IVec S1024x256 1 := cmpf .ole main_v5 main_v6
  let main_v8 : IVec S1024x256 1 := ori main_v3 main_v7
  main_v8
-- ==== Kernel.lean ====
abbrev S256x256 : Shape := ⟨2, ![256, 256]⟩
abbrev S512x256 : Shape := ⟨2, ![512, 256]⟩
abbrev S_ : Shape := ⟨0, ![]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S512x256, .f32⟩
  | .local _ .vmem, ⟨0, _⟩ => ⟨S256x256, .f32⟩
  | .local _ .vmem, ⟨1, _⟩ => ⟨S512x256, .f32⟩
  | .local _ .vmem, ⟨2, _⟩ => ⟨S256x256, .i8⟩
  | .local _ .vmem, ⟨3, _⟩ => ⟨S256x256, .i8⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v7 : BitVec 32 := Scalar.muli v2 c256_i32
  let c0_i32 : BitVec 32 := 0#32
  ![v7.toNat, 0]
def k0_dev1 (d0 : Dev nD) : Nat :=
  let c0_i32_5 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v10 : BitVec 32 := Scalar.muli v6 c2_i32_4
  let v11 : BitVec 32 := Scalar.addi c0_i32_5 v10
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v12 : BitVec 32 := Scalar.muli v5 c1_i32_6
  let v13 : BitVec 32 := Scalar.addi v11 v12
  v13.toNat
def k0_dev2 (d0 : Dev nD) : Nat :=
  let c0_i32_14 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_13 : BitVec 32 := 2#32
  let v27 : BitVec 32 := Scalar.muli v6 c2_i32_13
  let v28 : BitVec 32 := Scalar.addi c0_i32_14 v27
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v29 : BitVec 32 := Scalar.muli v5 c1_i32_15
  let v30 : BitVec 32 := Scalar.addi v28 v29
  v30.toNat
def k0_off2 (d0 : Dev nD) : Fin 2 → Nat :=
  let c1_i32_22 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v39 : BitVec 32 := Scalar.subi c1_i32_22 v2
  let c256_i32_23 : BitVec 32 := 256#32
  let v40 : BitVec 32 := Scalar.muli v39 c256_i32_23
  let v41 : Index := Scalar.indexCast v40
  let c0_24 : Index := 0#32
  ![v41.toNat, 0]
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x256 : Shape := ⟨2, ![512, 256]⟩
abbrev S_ : Shape := ⟨0, ![]⟩
abbrev S256x256 : Shape := ⟨2, ![256, 256]⟩
abbrev S1024x256 : Shape := ⟨2, ![1024, 256]⟩

abbrev nBuf : Space → Nat
  | .hbm => 27
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S_, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S_, .f32⟩
  | .hbm, ⟨11, _⟩ => ⟨S512x256, .f32⟩
  | .hbm, ⟨12, _⟩ => ⟨S512x256, .f32⟩
  | .hbm, ⟨13, _⟩ => ⟨S512x256, .i32⟩
  | .hbm, ⟨14, _⟩ => ⟨S512x256, .i8⟩
  | .hbm, ⟨15, _⟩ => ⟨S512x256, .i32⟩
  | .hbm, ⟨16, _⟩ => ⟨S512x256, .f32⟩
  | .hbm, ⟨17, _⟩ => ⟨S_, .f32⟩
  | .hbm, ⟨18, _⟩ => ⟨S512x256, .f32⟩
  | .hbm, ⟨19, _⟩ => ⟨S512x256, .f32⟩
  | .hbm, ⟨20, _⟩ => ⟨S256x256, .f32⟩
  | .hbm, ⟨21, _⟩ => ⟨S256x256, .f32⟩
  | .hbm, ⟨22, _⟩ => ⟨S512x256, .f32⟩
  | .hbm, ⟨23, _⟩ => ⟨S256x256, .f32⟩
  | .hbm, ⟨24, _⟩ => ⟨S256x256, .f32⟩
  | .hbm, ⟨25, _⟩ => ⟨S512x256, .f32⟩
  | .hbm, ⟨26, _⟩ => ⟨S1024x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_cst_1 : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.Halves.lean ====
/-
# The two row halves of a device's result

Device `c` of the 2 × 2 mesh stands at position `c / 2` of the axis the array is gathered over, and its partner `peer c`
at the other position of the same column. Its result buffer has 512 rows: rows `256 * (c / 2) ..` are its own half, the
other 256 rows its partner's half. This file says which elements each half has, and what a write through either leaves.
-/
module

public import proofs.«01_k».proof.Proof.Gen.KernelIdeal
public import proofs.«01_k».proof.Proof.Gen.KernelIdeal.Skeleton
public import Idealize.ShloMosaic.Lib.Pipeline.Kit
public import Idealize.ShloMosaic.Lib.Pipeline.ValueKit.Geometry
public import Idealize.ShloMosaic.Lib.ValueIdxCore
public import Idealize.ShloMosaic.Lib.Tactic

@[expose] public section

noncomputable section

namespace Cert.Exchange

open Cert.KernelIdeal Cert.KernelIdeal.Gen
open Idealize.ShloMosaic Idealize.ShloMosaic.ValueIdx Idealize.SL.Sem

variable {F : FTy → Type} [FloatOps F]

/-! ## The partner -/

/-- The device at the other position of the gathered axis and the same position of the other axis. -/
def peer (c : Dev nD) : Dev nD := ⟨c.val % 2 + 2 - 2 * (c.val / 2), by have := c.isLt; simp only [nD] at *; omega⟩

/-- Partners are each other's partner. -/
theorem peer_peer (c : Dev nD) : peer (peer c) = c := by revert c; decide

/-- The kernel's signal and its transfer both address the partner. -/
theorem signal_target (c : Dev nD) : (⟨k0_dev1 c, k0_dev1_lt c⟩ : Dev nD) = peer c := Fin.ext (k0_dev1_eq c)
theorem transfer_target (c : Dev nD) : (⟨k0_dev2 c, k0_dev2_lt c⟩ : Dev nD) = peer c := Fin.ext (k0_dev2_eq c)

/-! ## The buffers -/

/-- The staged input, the result, the block to send and the block received. -/
abbrev xM : Memref sig .tc .vmem S256x256 .f32 := Memref.whole cc0_stg0_0
abbrev oM : Memref sig .tc .vmem S512x256 .f32 := Memref.whole cc0_stg1_0
abbrev sM : Memref sig .tc .vmem S256x256 .i8 := Memref.whole cc0_scratch0
abbrev rM : Memref sig .tc .vmem S256x256 .i8 := Memref.whole cc0_scratch1

/-- The rectangles of a device's own half and of its partner's half. -/
abbrev ownR (c : Dev nD) : Rect S512x256 := Rect.unit (s := S512x256) (k0_off1 c) S256x256.size (k0_off1_inb c)
abbrev farR (c : Dev nD) : Rect S512x256 := Rect.unit (s := S512x256) (k0_off2 c) S256x256.size (k0_off2_inb c)
/-- The own half as the local copy's destination. -/
abbrev ownM (c : Dev nD) : Memref sig .tc .vmem S256x256 .f32 := oM.slice (ownR c) (fun _ => rfl)

/-- The elements of the own half. -/
abbrev ownSet (c : Dev nD) : Finset (Idx ((oM).view.loc (c.tc : Thread nD τ))) := (ownM c).view.set

/-- An element of the result, as an element of the half it lies in. -/
def low (i : S512x256.Idx) : S256x256.Idx := ix2 ⟨(i 0).val % 256, Nat.mod_lt _ (by decide)⟩ (i 1)

/-- A device's result from its two halves: `own` in its own half, `far` in the other. -/
def halves {α : Type} (c : Dev nD) (own far : S256x256.Idx → α) : S512x256.Idx → α :=
  fun i => if (i 0).val / 256 = c.val / 2 then own (low i) else far (low i)

theorem pos_lt (c : Dev nD) : c.val / 2 < 2 := by have := c.isLt; simp only [nD] at this; omega

/-- The own half is the rows whose number divided by 256 is the device's position. -/
theorem mem_ownR (c : Dev nD) (i : S512x256.Idx) : i ∈ (ownR c).set ↔ (i 0).val / 256 = c.val / 2 := by
  rw [Rect.mem_set_unit]
  simp only [k0_off1_eq]
  have h0 : (i 0).val < 512 := (i 0).isLt
  have h1 : (i 1).val < 256 := (i 1).isLt
  have hc := pos_lt c
  constructor
  · intro h
    have := h 0
    simp only [Matrix.cons_val_zero, S256x256] at this
    omega
  · intro h a
    fin_cases a
    · show 256 * (c.val / 2) ≤ (i 0).val ∧ (i 0).val < 256 * (c.val / 2) + 256
      omega
    · show 0 ≤ (i 1).val ∧ (i 1).val < 0 + 256
      omega

/-- The other half is the other rows. -/
theorem mem_farR (c : Dev nD) (i : S512x256.Idx) : i ∈ (farR c).set ↔ ¬ (i 0).val / 256 = c.val / 2 := by
  rw [Rect.mem_set_unit]
  simp only [k0_off2_eq]
  have h0 : (i 0).val < 512 := (i 0).isLt
  have h1 : (i 1).val < 256 := (i 1).isLt
  have hc := pos_lt c
  constructor
  · intro h
    have := h 0
    simp only [Matrix.cons_val_zero, S256x256] at this
    omega
  · intro h a
    fin_cases a
    · show 256 - 256 * (c.val / 2) ≤ (i 0).val ∧ (i 0).val < 256 - 256 * (c.val / 2) + 256
      omega
    · show 0 ≤ (i 1).val ∧ (i 1).val < 0 + 256
      omega

theorem ownSet_eq (c : Dev nD) : ownSet c = (ownR c).set := View.set_slice_whole _ _
theorem far_access_set (c : Dev nD) : ((oM).access (farR c) : View sig .tc _ _ _).set = (farR c).set := View.set_slice_whole _ _

/-- The other half lies outside the own half: it can be loaded and stored while the own half is being copied into. -/
theorem far_subset (c : Dev nD) : ((oM).access (farR c) : View sig .tc _ _ _).set ⊆ Finset.univ \ ownSet c := by
  intro i hi
  rw [far_access_set] at hi
  rw [Finset.mem_sdiff, ownSet_eq]
  exact ⟨Finset.mem_univ _, fun h => (mem_farR c i).mp hi ((mem_ownR c i).mp h)⟩

/-- What lies outside the own half is the other half. -/
theorem far_of_not_own (c : Dev nD) (i : S512x256.Idx) (hi : i ∈ Finset.univ \ ownSet c) : i ∈ (farR c).set := by
  rw [Finset.mem_sdiff, ownSet_eq] at hi
  exact (mem_farR c i).mpr fun h => hi.2 ((mem_ownR c i).mpr h)

/-- Read back from the place an element of a block has in the result: that element. -/
theorem low_own (c : Dev nD) (j : S256x256.Idx) : low ((ownR c).emb j) = j := by
  have hj : (j 0).val < 256 := (j 0).isLt
  have hc := pos_lt c
  have e0 : ((ownR c).emb j 0).val = 256 * (c.val / 2) + (j 0).val :=
    (ValueKit.rect_emb_unit_val (s := S512x256) (k0_off1 c) S256x256.size (k0_off1_inb c) j 0).trans
      (congrArg (fun o : Fin 2 → Nat => o 0 + (j 0).val) (k0_off1_eq c))
  have e1 : ((ownR c).emb j 1).val = (j 1).val :=
    (ValueKit.rect_emb_unit_val (s := S512x256) (k0_off1 c) S256x256.size (k0_off1_inb c) j 1).trans
      ((congrArg (fun o : Fin 2 → Nat => o 1 + (j 1).val) (k0_off1_eq c)).trans (Nat.zero_add _))
  funext a
  fin_cases a
  · exact Fin.ext (show ((ownR c).emb j 0).val % 256 = (j 0).val by rw [e0]; omega)
  · exact Fin.ext (show ((ownR c).emb j 1).val = (j 1).val from e1)

theorem low_far (c : Dev nD) (j : S256x256.Idx) : low ((farR c).emb j) = j := by
  have hj : (j 0).val < 256 := (j 0).isLt
  have hc := pos_lt c
  have e0 : ((farR c).emb j 0).val = 256 - 256 * (c.val / 2) + (j 0).val :=
    (ValueKit.rect_emb_unit_val (s := S512x256) (k0_off2 c) S256x256.size (k0_off2_inb c) j 0).trans
      (congrArg (fun o : Fin 2 → Nat => o 0 + (j 0).val) (k0_off2_eq c))
  have e1 : ((farR c).emb j 1).val = (j 1).val :=
    (ValueKit.rect_emb_unit_val (s := S512x256) (k0_off2 c) S256x256.size (k0_off2_inb c) j 1).trans
      ((congrArg (fun o : Fin 2 → Nat => o 1 + (j 1).val) (k0_off2_eq c)).trans (Nat.zero_add _))
  funext a
  fin_cases a
  · exact Fin.ext (show ((farR c).emb j 0).val % 256 = (j 0).val by rw [e0]; omega)
  · exact Fin.ext (show ((farR c).emb j 1).val = (j 1).val from e1)

/-- A block written through the own half is the `own` part of the result there. -/
theorem own_written (c : Dev nD) (f : (cc0_stg1_0 : Ref sig .tc).ty.Contents (Elt F)) (own : S256x256.Idx → F .f32) (far : S256x256.Idx → F .f32) :
    ∀ i ∈ ownSet c, (ownM c).view.write (Elt F) f own Finset.univ i = halves c own far i := by
  intro i hi
  rw [ownSet_eq] at hi
  have hrow := (mem_ownR c i).mp hi
  obtain ⟨j, rfl⟩ := (ownR c).exists_idx_of_mem hi
  unfold halves
  rw [if_pos hrow]
  exact ((ownM c).view.write_emb_of_mem f own (Finset.mem_univ j)).trans (congrArg own (low_own c j).symm)

/-- A block stored through the other half is the `far` part of the result there. -/
theorem far_written (c : Dev nD) (f : (cc0_stg1_0 : Ref sig .tc).ty.Contents (Elt F)) (own : S256x256.Idx → F .f32) (far : S256x256.Idx → F .f32) :
    ∀ i ∈ Finset.univ \ ownSet c,
      ((oM).access (farR c) : View sig .tc _ _ _).write (Elt F) f far Finset.univ i = halves c own far i := by
  intro i hi
  have hi := far_of_not_own c i hi
  have hrow := (mem_farR c i).mp hi
  obtain ⟨j, rfl⟩ := (farR c).exists_idx_of_mem hi
  unfold halves
  rw [if_neg hrow]
  exact (((oM).access (farR c) : View sig .tc _ _ _).write_emb_of_mem f far (Finset.mem_univ j)).trans (congrArg far (low_far c j).symm)

end Cert.Exchange

end
-- ==== Proof.Schedule.lean ====
/-
# The exchange, as a schedule of its semaphores

Each device has four semaphores in play, numbered here 0 to 3: the runtime's barrier semaphore, and the three DMA
semaphores of the copy it sends, the copy it receives and the copy it makes locally. Each is used for one round, in
which exactly one party raises it and its device waits for it once:

* the barrier is raised by the partner, which hands over its receive buffer for the copy to come;
* the send semaphore is raised by the device's own transfer, which hands the send buffer back;
* the receive semaphore is raised by the partner's transfer, which hands over the receive buffer holding the
  partner's quantised block;
* the local semaphore is raised by the copy of the device's block into its own half of the result, which hands that
  half over, and the half share of the staged block that the copy read.
-/
module

public import proofs.«01_k».proof.Proof.Halves
public import proofs.«01_k».proof.Proof.Gen.KernelIdeal.Launch
public import Idealize.ShloMosaic.Lib.Pipeline.Launch

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: one copy of the rounds library's for the staging, one for the exchange -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## The semaphores -/

/-- The four semaphores: barrier, send, receive, local. -/
abbrev sem4 : Fin 4 → SemLoc sig := fun
  | 0 => .reg (SemArray.scalar (sig.barrier 0 rfl) : Sems sig S_).sem
  | 1 => .dma cc0_scratch2.sem
  | 2 => .dma cc0_scratch3.sem
  | 3 => .dma cc0_scratch4.sem

/-- Semaphore `k` of device `c`. -/
abbrev cell (c : Dev nD) (k : Fin 4) : GSem nD τ sig := ((c : Thread nD τ), sem4 k)

theorem sem4_injective : Function.Injective sem4 := by decide

/-- The number of one of the four semaphores. -/
def numOf (s : SemLoc sig) : Option (Fin 4) :=
  if s = sem4 0 then some 0 else if s = sem4 1 then some 1 else if s = sem4 2 then some 2 else if s = sem4 3 then some 3 else none

theorem numOf_sem4 (k : Fin 4) : numOf (sem4 k) = some k := by revert k; decide

/-- The units of a transfer of a quantised block, and of a copy of an unquantised one. -/
abbrev sentUnits : ℕ := (rM : Memref sig .tc .vmem S256x256 .i8).view.dmaCredit
abbrev copyUnits : ℕ := (ownM 0).view.dmaCredit

/-- The units semaphore `k` is raised by. -/
def units : Fin 4 → ℕ := fun | 0 => 1 | 1 => sentUnits | 2 => sentUnits | 3 => copyUnits

theorem units_pos (k : Fin 4) : 0 < units k := by
  fin_cases k
  · exact Nat.one_pos
  · exact View.dmaCredit_pos _ (by decide)
  · exact View.dmaCredit_pos _ (by decide)
  · exact View.dmaCredit_pos _ (by decide)

/-! ## The contents -/

/-- The block of the input that device `c` finds staged. -/
def block (c : Dev nD) : (cc0_stg0_0 : Ref sig .tc).ty.Contents (Elt F) :=
  (win0_0.blk (0 : Fin 1)).view.read (Elt F) (m ((c : Thread nD τ).loc main_arg0))

/-- Its block quantised: what it sends. -/
def coded (c : Dev nD) : (cc0_scratch0 : Ref sig .tc).ty.Contents (Elt F) := k0_pay2 (block m c)

/-- The result on device `c`: its own block in its own half, its partner's quantised block read back in the other. -/
def outAt (c : Dev nD) : (cc0_stg1_0 : Ref sig .tc).ty.Contents (Elt F) := halves c (block m c) (k0_pay1 (coded m (peer c)))

/-! ## What each semaphore hands its device -/

/-- Buffer `b` of device `c`, whole, at share `q`, holding `f`. -/
def holds (c : Dev nD) (b : Ref sig .tc) (q : PosShare TreeShare) (f : Buf (Elt F) ((c : Thread nD τ).loc b)) : sProp 𝕄 :=
  ((c : Thread nD τ).loc b) ↦{q} f

/-- The own half of device `c`'s result, holding its part of the result. -/
def ownHalf (c : Dev nD) : sProp 𝕄 := ((c : Thread nD τ).loc cc0_stg1_0) ↦[ownSet c]{fullShare} outAt m c

def hands (c : Dev nD) : Fin 4 → sProp 𝕄 := fun
  | 0 => iprop((∃ f, holds (peer c) cc0_scratch1 fullShare f) ∗ reached EX (cell (peer c) 2) 0)
  | 1 => holds c cc0_scratch0 fullShare (coded m c)
  | 2 => holds c cc0_scratch1 fullShare (coded m (peer c))
  | 3 => iprop(ownHalf m c ∗ holds c cc0_stg0_0 fullShare.left (block m c))

instance hands_storable (c : Dev nD) (k : Fin 4) : BI.Storable (upEmb : UEmb _ 𝕄) (hands m c k) := by
  match k with
  | 0 => unfold hands holds; infer_instance
  | 1 => unfold hands holds; infer_instance
  | 2 => unfold hands holds; infer_instance
  | 3 => unfold hands holds ownHalf; infer_instance

/-- The schedule: one round, round 0, of one duty on each of the four semaphores of each device. -/
def plan : Rounds.Schedule (GSem nD τ sig) Unit 𝕄 where
  duties g r := if r = 0 ∧ g.1.2 = .tc ∧ (numOf g.2).isSome then {()} else ∅
  unitless _ := False
  amount g _ _ := match numOf g.2 with | some k => units k | none => 1
  payload g _ _ := match numOf g.2 with | some k => hands m g.1.1 k | none => iprop(emp)
  amount_pos g _ _ _ := by
    cases numOf g.2 with
    | none => exact Nat.one_pos
    | some k => exact units_pos k

instance plan_storable (g : GSem nD τ sig) (r : ℕ) (d : Unit) : BI.Storable (upEmb : UEmb _ 𝕄) ((plan m).payload g r d) := by
  show BI.Storable (upEmb : UEmb _ 𝕄) (match numOf g.2 with | some k => hands m g.1.1 k | none => (iprop(emp) : sProp 𝕄))
  match numOf g.2 with
  | none => show BI.Storable (upEmb : UEmb _ 𝕄) (iprop(emp) : sProp 𝕄); infer_instance
  | some k => exact hands_storable m g.1.1 k

theorem plan_duties (c : Dev nD) (k : Fin 4) : (plan m).duties (cell c k) 0 = {()} :=
  if_pos ⟨rfl, rfl, by rw [numOf_sem4]; rfl⟩

theorem plan_later (g : GSem nD τ sig) : ∀ r, 1 ≤ r → (plan m).duties g r = ∅ := fun r hr => if_neg fun h => by omega

theorem plan_amount (c : Dev nD) (k : Fin 4) (d : Unit) : (plan m).amount (cell c k) 0 d = units k := by
  simp only [plan, numOf_sem4]

theorem plan_payload (c : Dev nD) (k : Fin 4) (d : Unit) : (plan m).payload (cell c k) 0 d = hands m c k := by
  simp only [plan, numOf_sem4]

theorem plan_expect (c : Dev nD) (k : Fin 4) : (plan m).expect (cell c k) 0 = units k := by
  unfold Schedule.expect Schedule.amountOf
  rw [plan_duties, Finset.sum_singleton, plan_amount]

theorem plan_rest (c : Dev nD) (k : Fin 4) :
    bigSep ((plan m).duties (cell c k) 0 \ ∅) (fun d => (plan m).payload (cell c k) 0 d) = hands m c k := by
  rw [Finset.sdiff_empty, plan_duties, bigSep_singleton, plan_payload]

theorem mem_duties (c : Dev nD) (k : Fin 4) : () ∈ (plan m).duties (cell c k) 0 := by
  rw [plan_duties]; exact Finset.mem_singleton_self _

/-! ## What each device owes at launch, and the order of the waits -/

/-- Device `c` owes its partner one transfer; -/
def owesTransfer (c : Dev nD) : CellTallies nD τ sig Unit := tallyAt (cell (peer c) 2) () sentUnits
/-- at launch it owes its partner that and one signal. -/
def owesAll (c : Dev nD) : CellTallies nD τ sig Unit := owesTransfer c + tallyAt (cell (peer c) 0) () 1

/-- Every TensorCore semaphore has a level: barriers 1, receive semaphores 2, all others 0. -/
def L (g : GSem nD τ sig) : Finset Unit := if g.1.2 = .tc then {()} else ∅
def lv (g : GSem nD τ sig) (_ : Unit) : ℕ := if g.2 = sem4 0 then 1 else if g.2 = sem4 2 then 2 else 0

theorem L_of_ne (g : GSem nD τ sig) (h : g.1.2 ≠ .tc) : L g = ∅ := if_neg h
theorem L_tc (c : Dev nD) (s : SemLoc sig) : L ((c : Thread nD τ), s) = {()} := if_pos rfl

theorem lv_bar (c : Dev nD) : lv (cell c 0) () = 1 := if_pos rfl
theorem lv_recv (c : Dev nD) : lv (cell c 2) () = 2 := by
  have h : sem4 2 ≠ sem4 0 := by decide
  exact (if_neg h).trans (if_pos rfl)

theorem tallyAt_cell_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem owesAll_pos {c : Dev nD} {g : GSem nD τ sig} {u : Unit} (h : 0 < owesAll c g u) : g = cell (peer c) 2 ∨ g = cell (peer c) 0 := by
  unfold owesAll owesTransfer at h
  rw [Pi.add_apply, Finsupp.add_apply] at h
  rcases (by omega : 0 < (tallyAt (cell (peer c) 2) () sentUnits : CellTallies nD τ sig Unit) g u ∨
      0 < (tallyAt (cell (peer c) 0) () 1 : CellTallies nD τ sig Unit) g u) with h | h
  · exact .inl (tallyAt_cell_pos h)
  · exact .inr (tallyAt_cell_pos h)

/-- A device may wait for a semaphore of level 0 whatever of its exchange it still owes. -/
theorem mayWait_zero_level (c : Dev nD) (s : SemLoc sig) (hs : ∀ u, lv ((c : Thread nD τ), s) u = 0) :
    (levAts L lv : sProp 𝕄) ⊢ MayWait (c : Thread nD τ) s () (owesAll c) :=
  MayOwe.of_cut (L := L) (lev := lv) 0 (fun p hp => by rw [Finset.mem_singleton.mp hp, L_tc]; exact Finset.mem_singleton_self _)
    (fun g u hg => by rcases owesAll_pos hg with rfl | rfl <;> exact Finset.mem_singleton_self _)
    (fun p hp => by rw [Finset.mem_singleton.mp hp]; exact (hs ()).le)
    (fun g u hg => by
      rcases owesAll_pos hg with rfl | rfl
      · rw [lv_recv]; decide
      · rw [lv_bar]; decide)

/-- It may wait at its barrier once it owes the transfer only. -/
theorem mayWait_barrier (c : Dev nD) : (levAts L lv : sProp 𝕄) ⊢ MayWait (c : Thread nD τ) (sem4 0) () (owesTransfer c) :=
  MayOwe.of_cut (L := L) (lev := lv) 1 (fun p hp => by rw [Finset.mem_singleton.mp hp, L_tc]; exact Finset.mem_singleton_self _)
    (fun g u hg => by rw [tallyAt_cell_pos hg, L_tc]; exact Finset.mem_singleton_self _)
    (fun p hp => by rw [Finset.mem_singleton.mp hp]; exact (lv_bar c).le)
    (fun g u hg => by rw [tallyAt_cell_pos hg, lv_recv]; decide)

end Cert.Exchange

end
-- ==== Proof.Steps.lean ====
/-
# The steps of the exchange

One theorem per step of the kernel that touches a semaphore: the local copy, the signal to the partner, the transfer to
the partner, and the wait for a semaphore. Each says what the device gives up and what it has afterwards. As a device
waits for each of its semaphores exactly once, the waiting step also gives the semaphore back, at zero.
-/
module

public import proofs.«01_k».proof.Proof.Schedule

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`'s TensorCore. -/
abbrev wpTc (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-! ## What everyone knows -/

/-- Under the names `K`: the invariants of all the semaphores, and that each is at its round 0. -/
def records (K : Dev nD × Fin 4 → ℕ) : sProp 𝕄 :=
  iprop((bigSep Finset.univ fun ck : Dev nD × Fin 4 => cellInv EX (plan m) (K ck) (cell ck.1 ck.2))
    ∗ bigSep Finset.univ fun ck : Dev nD × Fin 4 => reached EX (cell ck.1 ck.2) 0)

instance records_persistent (K : Dev nD × Fin 4 → ℕ) : BI.Persistent (records m K) := by unfold records; infer_instance

theorem records_inv (K : Dev nD × Fin 4 → ℕ) (c : Dev nD) (k : Fin 4) : records m K ⊢ cellInv EX (plan m) (K (c, k)) (cell c k) := by
  unfold records
  iintro ⟨H, -⟩
  have h : (bigSep Finset.univ fun ck : Dev nD × Fin 4 => (cellInv EX (plan m) (K ck) (cell ck.1 ck.2) : sProp 𝕄))
      ⊢ cellInv EX (plan m) (K (c, k)) (cell c k) := bigSep_elim (Finset.mem_univ (c, k))
  iapply h
  iexact H

theorem records_reached (K : Dev nD × Fin 4 → ℕ) (c : Dev nD) (k : Fin 4) : records m K ⊢ reached EX (cell c k) 0 := by
  unfold records
  iintro ⟨-, H⟩
  have h : (bigSep Finset.univ fun ck : Dev nD × Fin 4 => (reached EX (cell ck.1 ck.2) 0 : sProp 𝕄))
      ⊢ reached EX (cell c k) 0 := bigSep_elim (Finset.mem_univ (c, k))
  iapply h
  iexact H

/-- The right to raise semaphore `k` of device `c`. -/
abbrev mayRaise (c : Dev nD) (k : Fin 4) : sProp 𝕄 := dutyTok EX (cell c k) 0 ()
/-- Device `c` has not yet waited for its semaphore `k`. -/
abbrev unwaited (c : Dev nD) (k : Fin 4) : sProp 𝕄 := atPos EX (cell c k) 0 ∅ 0

/-! ## The steps -/

variable (K : Dev nD × Fin 4 → ℕ) (c : Dev nD) {k : PUnit → Prog (TpuEff nD τ sig (Elt F) Λ₀ .tc) PUnit} {Q : PUnit → sProp (MT nD τ sig Unit (Elt F) ℕ UU ℕ)}

/-- The local copy: a share of the staged block and the own half of the result go in, and will come out of the local
semaphore. -/
theorem step_copy (f : Buf (Elt F) ((c : Thread nD τ).loc cc0_stg1_0))
    {hsrc : (xM).view.WordExact} {hdst : (ownM c).view.WordExact}
    {hsem : DmaTarget.Typed (nD := nD) (τ := τ) (p := .tc) .vmem (.dma cc0_scratch4.sem) (.here (ownM c))} :
    iprop(records m K ∗ holds c cc0_stg0_0 fullShare.left (block m c)
        ∗ (((c : Thread nD τ).loc cc0_stg1_0) ↦[ownSet c]{fullShare} f) ∗ mayRaise c 3)
      ⊢ iprop((cred (tallyAt (cell c 3) () copyUnits) -∗ wpTc c (k ⟨⟩) Q)
          -∗ wpTc c (.op (.enqueueDma xM (.here (ownM c)) (.dma cc0_scratch4.sem) hsrc hdst hsem) k) Q) := by
  iintro ⟨#HR, Hx, Ho, Ht⟩
  iapply (Rounds.wp_copy_pointsTo 𝒱₀ EX (plan m) (c : Thread nD τ) none (src := xM) (dst := ownM c) (sem := .dma cc0_scratch4.sem)
    (q := fullShare.left) (fs := block m c) (fd := f) (r := 0) (d := ()) (κ := K (c, 3)) (mem_duties m c 3) () copyUnits rfl
    (plan_amount m c 3 ()) (by
      rw [show (plan m).payload ((c : Thread nD τ), .dma cc0_scratch4.sem) 0 () = hands m c 3 from plan_payload m c 3 ()]
      refine BI.sep_mono ?_ ?_
      · unfold ownHalf
        exact Entails.of_eq (pointsTo_congr fun i hi => own_written c f _ _ i hi)
      · unfold holds
        rw [View.set_whole]
        exact BI.Entails.refl _))
  · isplitr; · iapply (records_inv m K c 3); iexact HR
    isplitl [Hx]; · unfold holds; rw [View.set_whole]; iexact Hx
    isplitl [Ho]; · iexact Ho
    isplitl [Ht]; · iexact Ht
    iapply (records_reached m K c 3); iexact HR

/-- The signal: the receive buffer goes to the partner. -/
theorem step_signal (f : Buf (Elt F) ((c : Thread nD τ).loc cc0_scratch1)) (W : Waits sig Unit) :
    iprop(records m K ∗ owes (c : Thread nD τ) (owesAll c) W ∗ mayRaise (peer c) 0 ∗ holds c cc0_scratch1 fullShare f)
      ⊢ iprop((owes (c : Thread nD τ) (owesTransfer c) W -∗ wpTc c (k ⟨⟩) Q)
          -∗ wpTc c (.op (.semSignal (peer c : Thread nD τ) (SemArray.scalar (sig.barrier 0 rfl) : Sems sig S_).sem 1) k) Q) := by
  iintro ⟨#HR, HO, Ht, Hf⟩
  iapply (Rounds.wp_signal 𝒱₀ EX (plan m) (c : Thread nD τ) none (dst := (peer c : Thread nD τ)) (κ := K (peer c, 0))
    (d := ()) (mem_duties m (peer c) 0) (plan_amount m (peer c) 0 ()) () (owesTransfer c) rfl) $$ [HO Ht Hf]
  isplitr; · iapply (records_inv m K (peer c) 0); iexact HR
  isplitl [HO]; · iexact HO
  isplitl [Ht]; · iexact Ht
  isplitl [Hf]
  · iapply (Entails.of_eq (plan_payload m (peer c) 0 ()).symm)
    unfold hands
    rw [peer_peer]
    isplitl [Hf]; · iexists f; iexact Hf
    iapply (records_reached m K c 2); iexact HR
  iapply (records_reached m K (peer c) 0); iexact HR

/-- The transfer: the send buffer goes in and will come out of the send semaphore; the partner's receive buffer goes to
the partner, holding the device's quantised block. -/
theorem step_send (n : Dev nD) (hn : n = peer c) (f : Buf (Elt F) ((peer c : Thread nD τ).loc cc0_scratch1)) (W : Waits sig Unit)
    {hsc : (rM : Memref sig (Dev.tc n : Thread nD τ).2.kind .vmem S256x256 .i8).view.ref.isScScratch = false}
    {hsrc : (sM).view.WordExact} {hdst : (rM).view.WordExact}
    {hsem : DmaTarget.Typed .vmem (.dma cc0_scratch3.sem) (.remote (Dev.tc n : Thread nD τ) (rM : Memref sig .tc .vmem S256x256 .i8) (.dma cc0_scratch2.sem) hsc)} :
    iprop(records m K ∗ holds c cc0_scratch0 fullShare (coded m c) ∗ holds (peer c) cc0_scratch1 fullShare f
        ∗ owes (c : Thread nD τ) (owesTransfer c) W ∗ mayRaise c 1 ∗ mayRaise (peer c) 2)
      ⊢ iprop(((cred (tallyAt (cell c 1) () sentUnits) ∗ owes (c : Thread nD τ) 0 W) -∗ wpTc c (k ⟨⟩) Q)
          -∗ wpTc c (.op (.enqueueDma sM (.remote (Dev.tc n : Thread nD τ) rM (.dma cc0_scratch2.sem) hsc) (.dma cc0_scratch3.sem) hsrc hdst hsem) k) Q) := by
  subst hn
  iintro ⟨#HR, Hs, Hr, HO, Ht, Htp⟩
  iapply (Rounds.wp_send_pointsTo 𝒱₀ EX (plan m) (c : Thread nD τ) none (κ₁ := K (c, 1)) (κ₂ := K (peer c, 2))
    (r₁ := 0) (r₂ := 0) (d₁ := ()) (d₂ := ()) (q := fullShare) (fs := coded m c) (fd := f) (mem_duties m c 1) (mem_duties m (peer c) 2)
    () () sentUnits rfl (plan_amount m c 1 ()) (plan_amount m (peer c) 2 ()) 0 (zero_add _).symm (W := W)
    (by
      rw [show (plan m).payload ((c : Thread nD τ), .dma cc0_scratch2.sem) 0 () = hands m c 1 from plan_payload m c 1 ()]
      unfold hands holds
      rw [View.set_whole])
    (by
      rw [show (plan m).payload ((peer c : Thread nD τ), .dma cc0_scratch3.sem) 0 () = hands m (peer c) 2 from plan_payload m (peer c) 2 ()]
      unfold hands holds
      rw [peer_peer, View.read_whole, View.write_whole_univ, View.set_whole]))
  isplitr; · iapply (records_inv m K c 1); iexact HR
  isplitr; · iapply (records_inv m K (peer c) 2); iexact HR
  isplitl [Hs]; · unfold holds; rw [View.set_whole]; iexact Hs
  isplitl [Hr]; · unfold holds; rw [View.set_whole]; iexact Hr
  isplitl [HO]; · iexact HO
  isplitl [Ht]; · iexact Ht
  isplitr; · iapply (records_reached m K c 1); iexact HR
  isplitl [Htp]; · iexact Htp
  iapply (records_reached m K (peer c) 2); iexact HR

/-- The wait for semaphore `j`: the device gets what the semaphore hands it, and the semaphore itself, at zero. -/
theorem step_wait (j : Fin 4) {w : TpuEff nD τ sig (Elt F) Λ₀ .tc PUnit} (O : CellTallies nD τ sig Unit) (W : Waits sig Unit)
    (hw : ∀ R : PUnit → sProp 𝕄, wpE (defs₀ (F := F)) 𝒱₀ (c : Thread nD τ) none Set.univ w R = waitSpec (c : Thread nD τ) Set.univ (sem4 j) (units j) R) :
    iprop(records m K ∗ cred (tallyAt (cell c j) () (units j)) ∗ owes (c : Thread nD τ) O W
        ∗ MayWait (c : Thread nD τ) (sem4 j) () O ∗ unwaited c j)
      ⊢ iprop(((owes (c : Thread nD τ) O (insert (sem4 j, ()) W) ∗ hands m c j ∗ semVal (cell c j) 0) -∗ wpTc c (k ⟨⟩) Q)
          -∗ wpTc c (.op w k) Q) := by
  iintro ⟨#HR, Hc, HO, HM, Ha⟩ Hk
  iapply (Rounds.wp_wait_rest_token 𝒱₀ EX (plan m) (c : Thread nD τ) none (κ := K (c, j)) hw (Set.mem_univ _) () (O := O) (W := W)
    (R := 0) (m := 0) (T := ∅) (by rw [plan_expect, Nat.zero_add])) $$ [Hc HO HM Ha]
  · isplitr; · iapply (records_inv m K c j); iexact HR
    isplitl [Hc]; · iexact Hc
    isplitl [HO]; · iexact HO
    isplitl [HM]; · iexact HM
    iexact Ha
  iintro ⟨HO, Ha, -, Hp⟩
  ihave Hp := (Entails.of_eq (plan_rest m c j)) $$ Hp
  imod (Rounds.cell_close EX (plan m) (Set.mem_univ (K (c, j))) (fun h => h) (R := 0 + 1) (plan_later m (cell c j))) $$ [Ha] with Hz
  · isplitr; · iapply (records_inv m K c j); iexact HR
    iexact Ha
  iapply Hk
  isplitl [HO]; · iexact HO
  isplitl [Hp] <;> iassumption

end Cert.Exchange

end
-- ==== Proof.Body.lean ====
/-
# The kernel on one device

What a device has before the kernel's one grid point and after it, and that the kernel leads from the one to the other.

Before: the rights and credits of the exchange, and its two scratch buffers at any contents. After: the send buffer
holding its own quantised block, the receive buffer holding its partner's, the four semaphores at zero, and the staged
result holding `outAt`: its own block in its own half, its partner's quantised block read back in the other.
-/
module

public import proofs.«01_k».proof.Proof.Steps
public import Idealize.ShloMosaic.Lib.Pipeline.ValueKit.Geometry

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-! ## Before and after -/

/-- What is device `c`'s of the exchange: that it has waited for none of its semaphores, and the rights to raise its
partner's barrier and receive semaphores and its own send and local semaphores. -/
def own (c : Dev nD) : sProp 𝕄 :=
  iprop((unwaited c 0 ∗ unwaited c 1 ∗ unwaited c 2 ∗ unwaited c 3)
    ∗ mayRaise (peer c) 0 ∗ mayRaise c 1 ∗ mayRaise (peer c) 2 ∗ mayRaise c 3)

/-- What a device starts with: that, what everyone knows, and credit for what its partner owes it. -/
def start (c : Dev nD) : sProp 𝕄 :=
  iprop((∃ K, records m K ∗ own c) ∗ cred (tallyAt (cell c 0) () 1) ∗ cred (tallyAt (cell c 2) () sentUnits) ∗ levAts L lv)

def before (c : Dev nD) : sProp 𝕄 :=
  iprop(start m c ∗ (∃ f, holds c cc0_scratch0 fullShare f) ∗ ∃ f, holds c cc0_scratch1 fullShare f)

def after (c : Dev nD) : sProp 𝕄 :=
  iprop((holds c cc0_scratch0 fullShare (coded m c) ∗ holds c cc0_scratch1 fullShare (coded m (peer c)))
    ∗ semVal (cell c 0) 0 ∗ semVal (cell c 1) 0 ∗ semVal (cell c 2) 0 ∗ semVal (cell c 3) 0)

/-- The data of the launch: the arrays as they are, the staged block and result after the point, and the above. -/
def dats (_ : Fin 1) (c : Dev nD) : Dat τ (Elt F) Unit ℕ UU ℕ cfg0 c where
  A w := m ((cfg0.win w).arr.view.loc (c : Thread nD τ))
  after w _ := match w with
    | ⟨0, _⟩ => block m c
    | ⟨1, _⟩ => outAt m c
  Φ t := match t with
    | ⟨0, _⟩ => before m c
    | ⟨_ + 1, _⟩ => after m c
  q _ := fullShare
  owed t := match t with
    | ⟨0, _⟩ => owesAll c
    | ⟨_ + 1, _⟩ => 0

theorem fetched (t : Fin cfg0.N) : (cfg0.win (0 : Fin 2)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ holds c b fullShare f) := by
  unfold owns holds; simp only [Memref.view_whole, View.read_whole, View.set_whole]

/-! ## What the loads read and the stores leave -/

abbrev all256 : Rect S256x256 := Rect.unit (s := S256x256) ![0, 0] S256x256.size inb_S256x256_S256x256_0_0

theorem at_origin : (![0, 0] : Fin 2 → Nat) = fun _ => 0 := funext fun a => by fin_cases a <;> rfl

theorem load_block (f : (cc0_stg0_0 : Ref sig .tc).ty.Contents (Elt F)) :
    (xM).view.readAt (Elt F) all256.toLoadRect f = f := Memref.readAt_unit_zero (Elt F) cc0_stg0_0 at_origin _ f

theorem load_received (f : (cc0_scratch1 : Ref sig .tc).ty.Contents (Elt F)) :
    (rM).view.readAt (Elt F) all256.toLoadRect f = f := Memref.readAt_unit_zero (Elt F) cc0_scratch1 at_origin _ f

theorem store_sent (f w : (cc0_scratch0 : Ref sig .tc).ty.Contents (Elt F)) :
    ((sM).access all256 : View sig .tc _ _ _).write (Elt F) f w Finset.univ = w :=
  Memref.write_access_unit_zero_univ (Elt F) cc0_scratch0 at_origin _ f w

/-! ## Splitting and rejoining the staged buffers -/

/-- The staged block in two shares: one for the copy, one to load from. -/
theorem split_block (c : Dev nD) (f : Buf (Elt F) ((c : Thread nD τ).loc cc0_stg0_0)) :
    (holds c cc0_stg0_0 fullShare f : sProp 𝕄) ⊢ iprop(holds c cc0_stg0_0 fullShare.left f ∗ holds c cc0_stg0_0 fullShare.right f) := by
  unfold holds
  exact (pointsTo_share (PosShare.mem_left_op_right fullShare)).1

theorem join_block (c : Dev nD) (f : Buf (Elt F) ((c : Thread nD τ).loc cc0_stg0_0)) :
    iprop(holds c cc0_stg0_0 fullShare.left f ∗ holds c cc0_stg0_0 fullShare.right f) ⊢ (holds c cc0_stg0_0 fullShare f : sProp 𝕄) := by
  unfold holds
  exact (pointsTo_share (PosShare.mem_left_op_right fullShare)).2

/-- The staged result in the own half, for the copy, and the other. -/
theorem split_result (c : Dev nD) (f : Buf (Elt F) ((c : Thread nD τ).loc cc0_stg1_0)) :
    (holds c cc0_stg1_0 fullShare f : sProp 𝕄)
      ⊢ iprop((((c : Thread nD τ).loc cc0_stg1_0) ↦[ownSet c]{fullShare} f) ∗ (((c : Thread nD τ).loc cc0_stg1_0) ↦[Finset.univ \ ownSet c]{fullShare} f)) := by
  unfold holds
  exact (pointsTo_split_subset (Finset.subset_univ _)).1

/-- The own half copied and the other half stored: the result. -/
theorem join_result (c : Dev nD) (f : (cc0_stg1_0 : Ref sig .tc).ty.Contents (Elt F)) :
    iprop(ownHalf m c ∗ (((c : Thread nD τ).loc cc0_stg1_0) ↦[Finset.univ \ ownSet c]{fullShare}
        ((oM).access (farR c) : View sig .tc _ _ _).write (Elt F) f (k0_pay1 (coded m (peer c))) Finset.univ))
      ⊢ (holds c cc0_stg1_0 fullShare (outAt m c) : sProp 𝕄) := by
  have hfar : ((((c : Thread nD τ).loc cc0_stg1_0) ↦[Finset.univ \ ownSet c]{fullShare}
        ((oM).access (farR c) : View sig .tc _ _ _).write (Elt F) f (k0_pay1 (coded m (peer c))) Finset.univ) : sProp 𝕄)
      = (((c : Thread nD τ).loc cc0_stg1_0) ↦[Finset.univ \ ownSet c]{fullShare} outAt m c) :=
    pointsTo_congr fun i hi => far_written c f (block m c) _ i hi
  rw [hfar]
  unfold ownHalf holds
  exact (pointsTo_split_subset (Finset.subset_univ _)).2

/-- The units a wait counts off are those its semaphore was raised by. -/
theorem sent_credit : (sM).view.dmaCredit = units 1 := rfl
theorem received_credit : (rM).view.dmaCredit = units 2 := rfl
theorem copied_credit (c : Dev nD) : (ownM c).view.dmaCredit = units 3 := rfl

/-! ## The kernel -/

abbrev stg (c : Dev nD) (b : Ref sig .tc) (X : b.ty.Contents (Elt F)) : sProp 𝕄 :=
  iprop(∃ f : Buf (Elt F) ((c : Thread nD τ).loc b), ⌜f = X⌝ ∗ holds c b fullShare f)

def bodyPre (c : Dev nD) : sProp 𝕄 :=
  iprop(before m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(after m c ∗ (dats m 0 c).owesAt () t0_0.succ ∗ stg c cc0_stg0_0 (block m c) ∗ stg c cc0_stg1_0 (outAt m c))

set_option maxHeartbeats 800000 in
/-- The kernel, effect by effect, from `bodyPre` to `bodyPost`. -/
theorem kernel_body (c : Dev nD) :
    bodyPre m c ⊢ wpTc c
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        cc0_scratch2 cc0_scratch3 cc0_scratch4) (fun _ => bodyPost m c) := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre before start own
  iintro ⟨⟨⟨⟨%K, #HR, ⟨Ha0, Ha1, Ha2, Ha3⟩, Ht0, Ht1, Ht2, Ht3⟩, Hc0, Hc2, #Hlev⟩, ⟨%f0, Hs⟩, ⟨%f1, Hr⟩⟩, Ho,
    ⟨%d0, %g0, %hg0, Hx⟩, ⟨%d1, %g1, %hg1, Hout⟩⟩
  have hx : g0 = block m c := by rw [hg0]; unfold Dat.before; rw [if_pos (fetched t0_0)]; rfl
  subst hx
  unfold Dat.owesAt Pipeline.owesWithin
  icases Ho with ⟨%W, %hW, HO⟩
  rw [show (dats m 0 c).owed t0_0.castSucc = owesAll c from rfl]
  simp only [signal_target c]
  ihave Hx := (split_block c (block m c)) $$ Hx
  icases Hx with ⟨Hxl, Hxr⟩
  ihave Hout := (split_result c g1) $$ Hout
  icases Hout with ⟨Hown, Hfar⟩
  -- the local copy starts
  iapply (step_copy m K c g1) $$ [Hxl Hown Ht3]
  · isplitr; · iexact HR
    isplitl [Hxl]; · iexact Hxl
    isplitl [Hown] <;> iassumption
  iintro Hc3
  -- the signal to the partner
  iapply (step_signal m K c f1 W) $$ [HO Ht0 Hr]
  · isplitr; · iexact HR
    isplitl [HO]; · iexact HO
    isplitl [Ht0] <;> iassumption
  iintro HO
  -- the block quantised into the send buffer
  unfold holds
  iapply (wp_load 𝒱₀ (c : Thread nD τ) none Set.univ (m := xM) (Finset.subset_univ _)) $$ Hxr; iintro Hxr
  rw [load_block]
  iapply (wp_load 𝒱₀ (c : Thread nD τ) none Set.univ (m := sM) (Finset.subset_univ _)) $$ Hs; iintro Hs
  iapply (wp_store 𝒱₀ (c : Thread nD τ) none Set.univ (m := sM) (r := all256) (Mk := Finset.univ) (Finset.subset_univ _)) $$ Hs; iintro Hs
  rw [store_sent]
  -- the wait at the barrier
  iapply (step_wait m K c 0 (owesTransfer c) W (wpE_semWait_eq 𝒱₀ (c : Thread nD τ) none Set.univ)) $$ [HO Hc0 Ha0]
  · isplitr; · iexact HR
    isplitl [Hc0]; · iexact Hc0
    isplitl [HO]; · iexact HO
    isplitr; · iapply (mayWait_barrier c); iexact Hlev
    iexact Ha0
  iintro ⟨HO, Hp, Hz0⟩
  unfold hands
  icases Hp with ⟨⟨%f, Hrp⟩, -⟩
  -- the transfer
  iapply (step_send m K c _ (transfer_target c) f _) $$ [Hs Hrp HO Ht1 Ht2]
  · isplitr; · iexact HR
    isplitl [Hs]; · unfold holds coded; iexact Hs
    isplitl [Hrp]; · iexact Hrp
    isplitl [HO]; · iexact HO
    isplitl [Ht1] <;> iassumption
  iintro ⟨Hc1, HO⟩
  -- the wait for the partner's block
  iapply (step_wait m K c 2 0 _ (fun R => (wpE_waitDma2_eq 𝒱₀ (c : Thread nD τ) none Set.univ R).trans
      (congrArg (fun n => waitSpec (c : Thread nD τ) Set.univ (sem4 2) n R) received_credit))) $$ [HO Hc2 Ha2]
  · isplitr; · iexact HR
    isplitl [Hc2]; · iexact Hc2
    isplitl [HO]; · iexact HO
    isplitr; · rw [MayWait_zero]; iempintro
    iexact Ha2
  iintro ⟨HO, Hr, Hz2⟩
  unfold hands holds
  -- read back into the other half
  iapply (wp_load 𝒱₀ (c : Thread nD τ) none Set.univ (m := rM) (Finset.subset_univ _)) $$ Hr; iintro Hr
  rw [load_received]
  iapply (wp_load_rect 𝒱₀ (c : Thread nD τ) none Set.univ (m := oM) (r := farR c) (far_subset c)) $$ Hfar; iintro Hfar
  iapply (wp_store 𝒱₀ (c : Thread nD τ) none Set.univ (m := oM) (r := farR c) (Mk := Finset.univ)
    ((View.setOn_univ _).trans_subset (far_subset c))) $$ Hfar; iintro Hfar
  -- the wait for the send buffer
  iapply (step_wait m K c 1 0 _ (fun R => (wpE_waitDma2_eq 𝒱₀ (c : Thread nD τ) none Set.univ R).trans
      (congrArg (fun n => waitSpec (c : Thread nD τ) Set.univ (sem4 1) n R) sent_credit))) $$ [HO Hc1 Ha1]
  · isplitr; · iexact HR
    isplitl [Hc1]; · iexact Hc1
    isplitl [HO]; · iexact HO
    isplitr; · rw [MayWait_zero]; iempintro
    iexact Ha1
  iintro ⟨HO, Hs, Hz1⟩
  -- the wait for the local copy
  iapply (step_wait m K c 3 0 _ (fun R => (wpE_waitDma2_eq 𝒱₀ (c : Thread nD τ) none Set.univ R).trans
      (congrArg (fun n => waitSpec (c : Thread nD τ) Set.univ (sem4 3) n R) (copied_credit c)))) $$ [HO Hc3 Ha3]
  · isplitr; · iexact HR
    isplitl [Hc3]; · iexact Hc3
    isplitl [HO]; · iexact HO
    isplitr; · rw [MayWait_zero]; iempintro
    iexact Ha3
  iintro ⟨HO, Hp, Hz3⟩
  unfold hands
  icases Hp with ⟨Hown, Hxl⟩
  ihave Hout := (join_result m c g1) $$ [Hown Hfar]
  · isplitl [Hown] <;> iassumption
  ihave Hx := (join_block c (block m c)) $$ [Hxl Hxr]
  · isplitl [Hxl]; · iexact Hxl
    unfold holds; iexact Hxr
  unfold wpTc; rw [wp_ret]; imodintro
  unfold bodyPost after Dat.owesAt Pipeline.owesWithin
  rw [show (dats m 0 c).owed t0_0.succ = 0 from rfl]
  isplitl [Hs Hr Hz0 Hz1 Hz2 Hz3]
  · isplitl [Hs Hr]
    · isplitl [Hs]; · iexact Hs
      unfold holds; iexact Hr
    isplitl [Hz0]; · iexact Hz0
    isplitl [Hz1]; · iexact Hz1
    isplitl [Hz2] <;> iassumption
  isplitl [HO]
  · iexists (insert (sem4 3, ()) (insert (sem4 1, ()) (insert (sem4 2, ()) (insert (sem4 0, ()) W))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The launch's obligation for the body on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact kernel_body m c

end Cert.Exchange

end
-- ==== Proof.Launch.lean ====
/-
# The launch

All devices at once: the exchange's ghost state is made, each of its semaphores given to an invariant, and each right
to raise a semaphore dealt to the device that will use it; the kernel then runs on every device, and every run of the
whole mesh ends, with the result arrays as computed, the input arrays as they were, and every semaphore at zero.
-/
module

public import proofs.«01_k».proof.Proof.Body
public import Idealize.ShloMosaic.Lib.Pipeline.CollectiveSegs
public import Idealize.ShloMosaic.Lib.Pipeline.Kit

@[expose] public section

set_option maxRecDepth 8000

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of the mesh -/

/-- The kernel's own semaphores: send, receive, local. -/
abbrev ownSem : Fin 3 → SemLoc sig := fun | 0 => sem4 1 | 1 => sem4 2 | 2 => sem4 3

theorem ownSemFacts : Pipeline.OwnSemFacts cfg0.spec ownSem := by decide

theorem cell_injective : Function.Injective (fun ck : Dev nD × Fin 4 => cell ck.1 ck.2) := by
  rintro ⟨c, k⟩ ⟨c', k'⟩ h
  have h1 : c = c' := congrArg (fun g : GSem nD τ sig => g.1.1) h
  have h2 : k = k' := sem4_injective (congrArg Prod.snd h)
  exact Prod.ext h1 h2

/-- All the exchange's semaphores, and the rights to raise them. -/
def allCells : Finset (GSem nD τ sig) := Finset.univ.map ⟨_, cell_injective⟩
def allRights : Finset (GSem nD τ sig × ℕ × Unit) :=
  Finset.univ.map ⟨fun ck : Dev nD × Fin 4 => (cell ck.1 ck.2, 0, ()), fun a b h => cell_injective (congrArg Prod.fst h)⟩

/-- The ghost state at launch. -/
def u₀ : UU := (initOf (Pipeline.cells cfgs cellOf_inj) (Pipeline.launchToks cfgs cellOf_inj), initOf allCells allRights)

/-- What it gives device `c`: for each of its semaphores the schedule's state, its own position and the right to raise it. -/
def dealt (c : Dev nD) : sProp 𝕄 :=
  iprop((bigSep Finset.univ fun k : Fin 4 => roundState EX (plan m) (cell c k) 0)
    ∗ (bigSep Finset.univ fun k : Fin 4 => unwaited c k) ∗ (bigSep Finset.univ fun k : Fin 4 => reached EX (cell c k) 0)
    ∗ bigSep Finset.univ fun k : Fin 4 => mayRaise c k)

/-- What a device has of the exchange once everything is dealt. -/
def joined (c : Dev nD) : sProp 𝕄 := iprop(∃ K, records m K ∗ own c)

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_allCells (Φ : GSem nD τ sig → sProp 𝕄) :
    bigSep allCells Φ = bigSep Finset.univ fun c : Dev nD => bigSep Finset.univ fun k : Fin 4 => Φ (cell c k) := by
  unfold allCells; rw [bigSep_map, bigSep_univ_prod]; rfl

theorem bigSep_allRights :
    bigSep allRights (fun x => (dutyTok EX x.1 x.2.1 x.2.2 : sProp 𝕄)) = bigSep Finset.univ fun c : Dev nD => bigSep Finset.univ fun k : Fin 4 => mayRaise c k := by
  unfold allRights; rw [bigSep_map, bigSep_univ_prod]; rfl

theorem deal : BI.own (EX (initOf allCells allRights)) ⊢ (|==> bigSep Finset.univ (dealt m) : sProp 𝕄) := by
  iintro HX
  imod (Rounds.fund EX (plan m) allCells allRights) $$ HX with ⟨Hs, Hr, Ha, Ht⟩
  imodintro
  ihave Hs := (Entails.of_eq (bigSep_allCells fun g => roundState EX (plan m) g 0)) $$ Hs
  ihave Ha := (Entails.of_eq (bigSep_allCells fun g => atPos EX g 0 ∅ 0)) $$ Ha
  ihave Hr := (Entails.of_eq (bigSep_allCells fun g => reached EX g 0)) $$ Hr
  ihave Ht := (Entails.of_eq bigSep_allRights) $$ Ht
  unfold dealt; simp only [bigSep_sep']
  isplitl [Hs]; · iexact Hs
  isplitl [Ha]; · iexact Ha
  isplitl [Hr] <;> iassumption

theorem ownSems0_eq (c : Dev nD) : (Pipeline.ownSems0 (Ix := Unit) (Name := ℕ) (U := UU) (Lvl := ℕ) (Val := Elt F) (τ := τ) ownSem c : sProp 𝕄)
    = iprop(semVal (cell c 1) 0 ∗ semVal (cell c 2) 0 ∗ semVal (cell c 3) 0) := by
  rw [Pipeline.ownSems0_eq_of_list c ownSem [0, 1, 2] (by decide) (by decide)]; rfl

theorem unscopedSems0_eq (c : Dev nD) : (unscopedSems0 c : sProp 𝕄) = semVal (cell c 0) 0 := by
  unfold unscopedSems0; rw [bigSep_eq_bigSepL_of_eq [sem4 0] (by decide) (by decide)]; rfl

/-- Each semaphore of a device, at zero, and its schedule's state go into an invariant. -/
theorem device_alloc (c : Dev nD) :
    iprop(Pipeline.ownSems0 (Ix := Unit) (Name := ℕ) (U := UU) (Lvl := ℕ) (Val := Elt F) (τ := τ) ownSem c ∗ unscopedSems0 c ∗ dealt m c)
      ⊢ |={Set.univ}=> iprop((bigSep Finset.univ fun k : Fin 4 => iprop(∃ κ : ℕ, cellInv EX (plan m) κ (cell c k)))
          ∗ (bigSep Finset.univ fun k : Fin 4 => unwaited c k) ∗ (bigSep Finset.univ fun k : Fin 4 => reached EX (cell c k) 0)
          ∗ bigSep Finset.univ fun k : Fin 4 => mayRaise c k) := by
  rw [ownSems0_eq, unscopedSems0_eq]
  unfold dealt
  iintro ⟨⟨H1, H2, H3⟩, H0, Hs, Ha, Hr, Ht⟩
  have halloc : iprop((bigSep Finset.univ fun k : Fin 4 => semVal (cell c k) 0) ∗ bigSep Finset.univ fun k : Fin 4 => roundState EX (plan m) (cell c k) 0)
      ⊢ (|={Set.univ}=> bigSep Finset.univ fun k : Fin 4 => iprop(∃ κ : ℕ, cellInv EX (plan m) κ (cell c k)) : sProp 𝕄) := by
    rw [← bigSep_sep']
    exact (bigSep_mono fun k _ => (Rounds.body_intro EX (plan m) (cell c k)).trans inv_alloc).trans (bigSep_fupd _ _)
  imod halloc $$ [H0 H1 H2 H3 Hs] with HI
  · isplitl [H0 H1 H2 H3]
    · rw [bigSep_four]
      isplitl [H0]; · iexact H0
      isplitl [H1]; · iexact H1
      isplitl [H2] <;> iassumption
    · iexact Hs
  imodintro
  isplitl [HI]; · iexact HI
  isplitl [Ha]; · iexact Ha
  isplitl [Hr] <;> iassumption

/-! ## Dealing the rights -/

/-- Partners, as a permutation of the mesh. -/
def partners : Equiv.Perm (Dev nD) := ⟨peer, peer, peer_peer, peer_peer⟩

/-- The rights to raise the barrier and the receive semaphores change hands between partners. -/
theorem rights_exchanged :
    (bigSep Finset.univ fun c : Dev nD => bigSep Finset.univ fun k : Fin 4 => (mayRaise c k : sProp 𝕄))
      ⊢ bigSep Finset.univ fun c : Dev nD => iprop(mayRaise (peer c) 0 ∗ mayRaise c 1 ∗ mayRaise (peer c) 2 ∗ mayRaise c 3) := by
  rw [bigSep_congr (s := Finset.univ) (fun (c : Dev nD) _ => bigSep_four fun k => (mayRaise c k : sProp 𝕄))]
  rw [bigSep_sep', bigSep_sep', bigSep_sep', bigSep_sep', bigSep_sep', bigSep_sep',
    bigSep_univ_equiv partners (fun c : Dev nD => (mayRaise c 0 : sProp 𝕄)),
    bigSep_univ_equiv partners (fun c : Dev nD => (mayRaise c 2 : sProp 𝕄))]
  exact BI.Entails.refl _

theorem own_intro (c : Dev nD) :
    iprop((bigSep Finset.univ fun k : Fin 4 => unwaited c k)
        ∗ mayRaise (peer c) 0 ∗ mayRaise c 1 ∗ mayRaise (peer c) 2 ∗ mayRaise c 3) ⊢ (own c : sProp 𝕄) := by
  rw [bigSep_four]; unfold own; exact BI.Entails.refl _

theorem joined_intro (K : Dev nD × Fin 4 → ℕ) (c : Dev nD) : iprop(records m K ∗ own c) ⊢ joined m c := by
  unfold joined
  iintro H
  iexists K; iexact H

/-- What everyone knows can be given to everyone. -/
theorem bigSep_with {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k : Fin 4 => iprop(∃ κ : ℕ, cellInv EX (plan m) κ (cell c k)))
          ∗ (bigSep Finset.univ fun k : Fin 4 => unwaited c k) ∗ (bigSep Finset.univ fun k : Fin 4 => reached EX (cell c k) 0)
          ∗ bigSep Finset.univ fun k : Fin 4 => mayRaise c k) : sProp 𝕄)
      ⊢ bigSep Finset.univ (joined m) := by
  rw [bigSep_sep', bigSep_sep', bigSep_sep',
    ← bigSep_univ_prod (fun ck : Dev nD × Fin 4 => iprop(∃ κ : ℕ, cellInv EX (plan m) κ (cell ck.1 ck.2))),
    ← bigSep_univ_prod (fun ck : Dev nD × Fin 4 => (reached EX (cell ck.1 ck.2) 0 : sProp 𝕄))]
  iintro ⟨HI, Ha, #Hr, Ht⟩
  ihave HK := (BI.bigSep_exists_pi Finset.univ (fun (ck : Dev nD × Fin 4) (κ : ℕ) => (cellInv EX (plan m) κ (cell ck.1 ck.2) : sProp 𝕄))) $$ HI
  icases HK with ⟨%K, #HI⟩
  ihave Ht := (rights_exchanged (F := F)) $$ Ht
  iapply (bigSep_with (R := records m K) fun c => joined_intro m K c)
  isplitr
  · unfold records; isplitl; · iexact HI
    iexact Hr
  · have hown : iprop((bigSep Finset.univ fun c : Dev nD => bigSep Finset.univ fun k : Fin 4 => unwaited c k)
        ∗ bigSep Finset.univ fun c : Dev nD => iprop(mayRaise (peer c) 0 ∗ mayRaise c 1 ∗ mayRaise (peer c) 2 ∗ mayRaise c 3))
        ⊢ (bigSep Finset.univ fun c : Dev nD => own c : sProp 𝕄) := by
      rw [← bigSep_sep']
      exact bigSep_mono fun c _ => own_intro c
    iapply hown
    isplitl [Ha] <;> iassumption

/-- The step all devices take together before the kernel. -/
theorem together :
    (bigSep Finset.univ fun c => iprop(Pipeline.ownSems0 (Ix := Unit) (Name := ℕ) (U := UU) (Lvl := ℕ) (Val := Elt F) (τ := τ) ownSem c ∗ unscopedSems0 c ∗ dealt m c) : sProp 𝕄)
      ⊢ |={Set.univ}=> bigSep Finset.univ (joined m) :=
  ((bigSep_mono fun c _ => device_alloc m c).trans (bigSep_fupd _ _)).trans (BI.fupd_mono (regroup m))

/-! ## The credit each device has from its partner's debt -/

theorem cell_eq_iff {a b : Dev nD} (k : Fin 4) : Iff (cell a k = cell b k) (a = b) :=
  ⟨fun h => congrArg (fun g : GSem nD τ sig => g.1.1) h, fun h => h ▸ rfl⟩

/-- A tally at the partner's semaphore `k`, read at device `c`'s: nonzero only when the partner is `c`. -/
theorem tally_of_peer (d c : Dev nD) (k : Fin 4) (n : ℕ) :
    (tallyAt (cell (peer d) k) () n : CellTallies nD τ sig Unit) (cell c k) () = if d = peer c then n else 0 := by
  rw [tallyAt_apply]
  by_cases h : d = peer c
  · subst h; rw [peer_peer, if_pos ⟨rfl, rfl⟩, if_pos rfl]
  · rw [if_neg (fun ⟨h1, _⟩ => h (by rw [← peer_peer d]; exact congrArg peer ((cell_eq_iff k).mp h1).symm)), if_neg h]

theorem tally_elsewhere (d c : Dev nD) (j k : Fin 4) (hjk : j ≠ k) (n : ℕ) :
    (tallyAt (cell d j) () n : CellTallies nD τ sig Unit) (cell c k) () = 0 := by
  rw [tallyAt_ne_cell (fun h => hjk (sem4_injective (congrArg Prod.snd h).symm)), Finsupp.zero_apply]

theorem owed_barrier (d c : Dev nD) : owesAll d (cell c 0) () = if d = peer c then 1 else 0 := by
  unfold owesAll owesTransfer
  rw [Pi.add_apply, Finsupp.add_apply, tally_of_peer, tally_elsewhere (peer d) c 2 0 (by decide), Nat.zero_add]

theorem owed_transfer (d c : Dev nD) : owesAll d (cell c 2) () = if d = peer c then sentUnits else 0 := by
  unfold owesAll owesTransfer
  rw [Pi.add_apply, Finsupp.add_apply, tally_of_peer, tally_elsewhere (peer d) c 0 2 (by decide), Nat.add_zero]

theorem credit_barrier (c : Dev nD) :
    tallyOn (cell c 0) (launchCredit (Pipeline.owing owesAll) 0 (cell c 0)) = (tallyAt (cell c 0) () 1 : CellTallies nD τ sig Unit) := by
  unfold tallyAt; refine congrArg _ (Finsupp.ext fun u => ?_); cases u
  rw [Pipeline.launchCredit_owing, Finsupp.single_eq_same, Finset.sum_congr rfl fun d _ => owed_barrier d c,
    Finset.sum_ite_eq' Finset.univ (peer c) fun _ => 1, if_pos (Finset.mem_univ _)]

theorem credit_transfer (c : Dev nD) :
    tallyOn (cell c 2) (launchCredit (Pipeline.owing owesAll) 0 (cell c 2)) = (tallyAt (cell c 2) () sentUnits : CellTallies nD τ sig Unit) := by
  unfold tallyAt; refine congrArg _ (Finsupp.ext fun u => ?_); cases u
  rw [Pipeline.launchCredit_owing, Finsupp.single_eq_same, Finset.sum_congr rfl fun d _ => owed_transfer d c,
    Finset.sum_ite_eq' Finset.univ (peer c) fun _ => sentUnits, if_pos (Finset.mem_univ _)]

theorem credits (c : Dev nD) :
    (Pipeline.launchCred owesAll c : sProp 𝕄) ⊢ iprop(cred (tallyAt (cell c 0) () 1) ∗ cred (tallyAt (cell c 2) () sentUnits)) := by
  unfold Pipeline.launchCred
  rw [bigSep_univ_at _ (sem4 0), credit_barrier]
  refine sep_mono_right ?_
  rw [← credit_transfer]
  exact bigSep_elim (Finset.mem_erase.mpr ⟨fun h => absurd (sem4_injective h) (by decide), Finset.mem_univ _⟩)

/-! ## The launch's side conditions -/

theorem share_full (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owesAll c ∗ prngReg c (ρ c) ∗ joined m c)
      ⊢ |={Set.univ}=> iprop(start m c ∗ emp) := by
  iintro ⟨-, Hl, Hc, -, HJ⟩
  ihave Hc := (credits (F := F) c) $$ Hc
  icases Hc with ⟨H0, H2⟩
  imodintro
  unfold start joined
  isplitl
  · isplitl [HJ]; · iexact HJ
    isplitl [H0]; · iexact H0
    isplitl [H2] <;> iassumption
  · iempintro

theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before holds
  iintro ⟨Hs, -, H0, H1⟩
  isplitl [Hs]; · iexact Hs
  isplitl [H0] <;> iassumption

theorem after_exit (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = after m c from rfl, scopedRest0_eq, ownSems0_eq, unscopedSems0_eq]
  unfold after holds
  iintro ⟨⟨Hs, Hr⟩, H0, H1, H2, H3⟩
  isplitl [H0]; · iexact H0
  isplitl [H1 H2 H3]
  · isplitl [H1]; · iexact H1
    isplitl [H2] <;> iassumption
  isplitl [Hs]
  · iexists _; iexact Hs
  iexists _; iexact Hr

theorem mayWait_staging (c : Dev nD) (s : SemLoc sig) (hs : s ≠ sem4 0 ∧ s ≠ sem4 2)
    (O : CellTallies nD τ sig Unit) (hO : O = owesAll c ∨ O = 0) : (levAts L lv : sProp 𝕄) ⊢ MayWait (c : Thread nD τ) s () O := by
  rcases hO with rfl | rfl
  · exact mayWait_zero_level c s fun _ => (if_neg hs.1).trans (if_neg hs.2)
  · rw [MayWait_zero]
    exact BI.Affine.affine

theorem waits (c : Dev nD) : (levAts L lv : sProp 𝕄) ⊢ Pipeline.cellsWaits cfgs (dats m) () 0 c :=
  Pipeline.cellsWaits_intro cfgs (dats m) () 0 c fun w s t =>
    mayWait_staging c _ (by fin_cases w <;> fin_cases s <;> decide) _ (by
      rcases t with ⟨_ | _, ht⟩
      · exact Or.inl rfl
      · exact Or.inr rfl)

/-! ## The run -/

/-- The contents of device `c`'s window arrays after the run. -/
def finalArr (c : Dev nD) (w : Fin cfg0.W) : Buf (Elt F) ((cfg0.win w).arr.view.loc (c : Thread nD τ)) := (dats m 0 c).arrAt w cfg0.N

/-- What holds in the end: each device's arrays are at those contents. -/
def Ended : PUnit × MemSt nD τ sig (Elt F) → Prop := fun r =>
  ∀ c : Dev nD, ∀ w : Fin cfg0.W, r.2.mem ((cfg0.win w).arr.view.loc (c : Thread nD τ)) = finalArr m c w

/-- For any float values and from any memory: every run of the four devices ends, with each device's arrays at the
computed contents and every semaphore at zero. -/
theorem run_main : θ_run defs (onTc (τ := τ) (main (F := F))) (s₀ m ρ) (fun r => Ended m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := owesAll) (howed₀ := fun _ => rfl) (howedN := fun _ => rfl)
    (L := L) (lv := lv) (hL := L_of_ne) (hwaits := waits m)
    (G := dealt m) (G' := joined m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := together m)
    (hA := fun _ _ => rfl) (hpf := fun _ k => k.elim0)
    (X := start m) (Y := fun c => unscopedSems0 c) (Z := fun _ => iprop(emp))
    (hX := start_intro m ρ) (hin := before_intro m) (hout := after_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array after the run is as it was. -/
theorem final_input (c : Dev nD) : finalArr m c (0 : Fin 2) = m ((c : Thread nD τ).loc main_arg0) :=
  (dats (F := F) m 0 c).arrAt_in (0 : Fin 2) rfl _

end Cert.Exchange

end
-- ==== Proof.Quantise.lean ====
/-
# The quantiser, over the extended reals

An element is quantised by multiplying it by 25.4, rounding to the nearest integer (ties to even) and clipping to
[-127, 127]; the result is an integer held in eight bits. It is read back by multiplying by 1/25.4. Both constants are
the nearest single-precision numbers.

`coarse x` is an element quantised and read back. The kernel converts the clipped number straight to eight bits; the
reference converts it to thirty-two, cuts it to eight and widens it again: the two agree (`coarse_host`), as the
clipped number is an integer that eight bits hold. For |x| ≤ 5 nothing is clipped, and `coarse x` is within half a step
of x, and the little that the two constants are not exactly inverse: within 0.0197 (`coarse_near`).
-/
module

public import Idealize.ShloMosaic.PureOps
public import Idealize.ShloMosaic.PureOps.Ideal

@[expose] public section

noncomputable section

namespace Cert.Exchange

open Idealize.ShloMosaic

/-- The four literals of the two programs, and the two of the bound. -/
theorem literal_scale : Ideal.ofBits .f32 0x41CB3333#32 = ((13316915 / 524288 : ℝ) : EReal) := by
  simp [Ideal.ofBits, Ideal.ieee, -EReal.coe_mul]; norm_num
theorem literal_step : Ideal.ofBits .f32 0x3D214285#32 = ((10568325 / 268435456 : ℝ) : EReal) := by
  simp [Ideal.ofBits, Ideal.ieee, -EReal.coe_mul]; norm_num
theorem literal_low : Ideal.ofBits .f32 0xC2FE0000#32 = ((-127 : ℝ) : EReal) := by
  simp [Ideal.ofBits, Ideal.ieee, -EReal.coe_mul]; norm_num
theorem literal_high : Ideal.ofBits .f32 0x42FE0000#32 = ((127 : ℝ) : EReal) := by
  simp [Ideal.ofBits, Ideal.ieee, -EReal.coe_mul]; norm_num
theorem literal_five : Ideal.ofBits .f32 0x40A00000#32 = ((5 : ℝ) : EReal) := by
  simp [Ideal.ofBits, Ideal.ieee, -EReal.coe_mul]; norm_num
theorem literal_bound : Ideal.ofBits .f32 0x3CA161E5#32 = ((10576357 / 536870912 : ℝ) : EReal) := by
  simp [Ideal.ofBits, Ideal.ieee, -EReal.coe_mul]; norm_num

/-- An element scaled, rounded and clipped. -/
def clipped (x : EReal) : EReal :=
  min (Ideal.ofBits .f32 0x42FE0000#32) (max (Ideal.ofBits .f32 0xC2FE0000#32) (Ideal.liftRound Ideal.roundHalfEven (x * Ideal.ofBits .f32 0x41CB3333#32)))

/-- An element quantised to eight bits and read back. -/
def coarse (x : EReal) : EReal := (((Ideal.fptosi 8 (clipped x)).toInt : ℝ) : EReal) * Ideal.ofBits .f32 0x3D214285#32

/-- A rounded extended real clipped to [-127, 127]: an integer of that range. -/
theorem clip_round (y : EReal) : ∃ n : ℤ, (-127 ≤ n ∧ n ≤ 127)
    ∧ min ((127 : ℝ) : EReal) (max ((-127 : ℝ) : EReal) (Ideal.liftRound Ideal.roundHalfEven y)) = ((n : ℝ) : EReal) := by
  induction y using EReal.rec with
  | bot => exact ⟨-127, by decide, by
      show min _ (max _ ⊥) = _
      rw [max_eq_left bot_le, min_eq_right (EReal.coe_le_coe_iff.2 (by norm_num))]; norm_num⟩
  | top => exact ⟨127, by decide, by
      show min _ (max _ ⊤) = _
      rw [max_eq_right le_top, min_eq_left le_top]; norm_num⟩
  | coe r =>
    refine ⟨min 127 (max (-127) (Ideal.roundHalfEven r)), by omega, ?_⟩
    show min _ (max _ (((Ideal.roundHalfEven r : ℤ) : ℝ) : EReal)) = _
    rw [← EReal.coe_strictMono.monotone.map_max, ← EReal.coe_strictMono.monotone.map_min]
    norm_num

theorem clipped_int (x : EReal) : ∃ n : ℤ, (-127 ≤ n ∧ n ≤ 127) ∧ clipped x = ((n : ℝ) : EReal) := by
  unfold clipped
  rw [literal_low, literal_high]
  exact clip_round _

/-- An integer between -127 and 127 converted to `w ≥ 8` bits. -/
theorem fptosi_int (w : ℕ) (hw : 8 ≤ w) (n : ℤ) (hn : -127 ≤ n ∧ n ≤ 127) : Ideal.fptosi w ((n : ℝ) : EReal) = BitVec.ofInt w n := by
  have h128 : (128 : ℤ) ≤ ((2 ^ (w - 1) : ℕ) : ℤ) := by
    have : (2 : ℕ) ^ 7 ≤ 2 ^ (w - 1) := Nat.pow_le_pow_right (by norm_num) (by omega)
    exact_mod_cast this
  unfold Ideal.fptosi
  rw [Ideal.toIntClamped_coe, Int.floor_intCast, Int.ceil_intCast, ite_self]
  congr 1
  omega

/-- It is read back from eight bits as it was. -/
theorem toInt_int8 (n : ℤ) (hn : -127 ≤ n ∧ n ≤ 127) : (BitVec.ofInt 8 n).toInt = n := by
  rw [BitVec.toInt_ofInt]
  exact Int.bmod_eq_of_le (by norm_num; omega) (by norm_num; omega)

/-- An element read back is an integer times the step. -/
theorem coarse_int (x : EReal) (n : ℤ) (hn : -127 ≤ n ∧ n ≤ 127) (h : clipped x = ((n : ℝ) : EReal)) :
    coarse x = ((n : ℝ) : EReal) * Ideal.ofBits .f32 0x3D214285#32 := by
  unfold coarse
  rw [h, fptosi_int 8 le_rfl n hn, toInt_int8 n hn]

/-- The reference's conversion, through thirty-two bits, reads back the same. -/
theorem coarse_host (x : EReal) :
    (((((Ideal.fptosi 32 (clipped x)).setWidth 8).signExtend 32).toInt : ℝ) : EReal) * Ideal.ofBits .f32 0x3D214285#32 = coarse x := by
  obtain ⟨n, hn, h⟩ := clipped_int x
  rw [coarse_int x n hn h, h, fptosi_int 32 (by norm_num) n hn]
  have h8 : (BitVec.ofInt 32 n).setWidth 8 = BitVec.ofInt 8 n := by
    apply BitVec.eq_of_toInt_eq
    rw [toInt_int8 n hn, BitVec.toInt_setWidth, BitVec.toNat_ofInt]
    show Int.bmod (((n % 4294967296).toNat : ℕ) : ℤ) 256 = n
    rw [Int.bmod_def]
    omega
  rw [h8, BitVec.toInt_signExtend_of_le (by norm_num), toInt_int8 n hn]

/-- Rounding moves a number by at most one half. -/
theorem round_near (r : ℝ) : |(Ideal.roundHalfEven r : ℝ) - r| ≤ 1 / 2 := by
  have h1 := Int.floor_le r
  have h2 := Int.lt_floor_add_one r
  unfold Ideal.roundHalfEven
  simp only
  rw [abs_le]
  split_ifs <;> push_cast <;> constructor <;> linarith

/-- For |r| ≤ 5 the element read back is within 0.0197 of r. -/
theorem coarse_near (r : ℝ) (hr : |r| ≤ 5) : ∃ q : ℝ, coarse ((r : ℝ) : EReal) = ((q : ℝ) : EReal) ∧ |q - r| ≤ 10576357 / 536870912 := by
  set y : ℝ := r * (13316915 / 524288) with hy
  obtain ⟨hr1, hr2⟩ := abs_le.1 hr
  obtain ⟨hn1, hn2⟩ := abs_le.1 (round_near y)
  have hlo : -127 ≤ Ideal.roundHalfEven y := by
    have : (-128 : ℝ) < (Ideal.roundHalfEven y : ℝ) := by linarith
    have : -128 < Ideal.roundHalfEven y := by exact_mod_cast this
    omega
  have hhi : Ideal.roundHalfEven y ≤ 127 := by
    have : (Ideal.roundHalfEven y : ℝ) < 128 := by linarith
    have : Ideal.roundHalfEven y < 128 := by exact_mod_cast this
    omega
  have hc : clipped ((r : ℝ) : EReal) = ((Ideal.roundHalfEven y : ℝ) : EReal) := by
    unfold clipped
    rw [literal_low, literal_high, literal_scale, ← EReal.coe_mul, ← hy]
    show min _ (max _ (((Ideal.roundHalfEven y : ℤ) : ℝ) : EReal)) = _
    rw [max_eq_right (EReal.coe_le_coe_iff.2 (by exact_mod_cast hlo)), min_eq_right (EReal.coe_le_coe_iff.2 (by exact_mod_cast hhi))]
  refine ⟨(Ideal.roundHalfEven y : ℝ) * (10568325 / 268435456), ?_, ?_⟩
  · rw [coarse_int _ _ ⟨hlo, hhi⟩ hc, literal_step, ← EReal.coe_mul]
  · rw [abs_le]
    constructor <;> linarith

end Cert.Exchange

end
-- ==== Proof.Gathered.lean ====
/-
# The gathered array, as the two positions hold it

Position `p` of the gathered axis (0 or 1) ends up with the whole array of 512 rows: the rows of its own half as they
are, the others quantised and read back. `heldAt p x` is that array, `gathered x` the two of them, position 0's above
position 1's. This file says that the reference computes `gathered` (`reference_value`), and that every element of
`gathered x` is within 0.0197 of x, where |x| ≤ 5 (`gathered_near`).
-/
module

public import proofs.«01_k».proof.Defs
public import proofs.«01_k».proof.Proof.Quantise
public import proofs.«01_k».proof.Proof.Gen.ReferenceIdeal
public import proofs.«01_k».proof.Proof.Gen.ReferenceIdeal.Run
public import Idealize.ShloMosaic.Lib.ValueIdxCore
public import Idealize.ShloMosaic.Lib.IdealHost
public import Idealize.ShloMosaic.Lib.WordCmp
public import Idealize.ShloMosaic.Lib.Pointwise.ElementwiseCore
public import Idealize.ShloMosaic.Lib.Pipeline.Value

@[expose] public section

noncomputable section

namespace Cert.Exchange

open Cert.ReferenceIdeal Cert.ReferenceIdeal.Gen
open Idealize.ShloMosaic Idealize.ShloMosaic.ValueIdx

/-- The array as position `p` holds it: its own half as it is, the other quantised and read back. -/
def heldAt (p : ℕ) (x : FVec Ideal S512x256 .f32) : FVec Ideal S512x256 .f32 :=
  fun i => if (i 0).val / 256 = p then x i else coarse (x i)

/-- An element of the stacked arrays, as an element of the one it lies in. -/
def inStack (i : S1024x256.Idx) : S512x256.Idx := ix2 ⟨(i 0).val % 512, Nat.mod_lt _ (by decide)⟩ (i 1)

/-- The array as both positions hold it, position 0's above position 1's. -/
def gathered (x : FVec Ideal S512x256 .f32) : FVec Ideal S1024x256 .f32 :=
  fun i => heldAt ((i 0).val / 512) x (inStack i)

/-! ## The reference -/

/-- The quantised and read-back array, as the reference computes it. -/
def hostCoarse (x : FVec Ideal S512x256 .f32) : FVec Ideal S512x256 .f32 :=
  mulf (sitofp .f32 (extsi 32 (trunci 8 (fptosi 32 (minimumf (broadcastInDim S512x256 ![] bcast_S_S512x256 (id (constant S_ .f32 0x42FE0000#32)))
    (maximumf (broadcastInDim S512x256 ![] bcast_S_S512x256 (id (constant S_ .f32 0xC2FE0000#32)))
      (Host.roundeven (mulf x (broadcastInDim S512x256 ![] bcast_S_S512x256 (constant S_ .f32 0x41CB3333#32))))))) natLt_8_32) natLt_8_32))
    (broadcastInDim S512x256 ![] bcast_S_S512x256 (constant S_ .f32 0x3D214285#32))

/-- Each of its elements is the element quantised and read back. -/
theorem hostCoarse_apply (x : FVec Ideal S512x256 .f32) (i : S512x256.Idx) : hostCoarse x i = coarse (x i) :=
  coarse_host (x i)

/-- The first 256 rows of one array above the last 256 of another. -/
def halvesOf (a b : FVec Ideal S512x256 .f32) : FVec Ideal S512x256 .f32 :=
  concatenate S512x256 0 [⟨S256x256, extractStridedSlice S256x256 ![0, 0] a slices_S512x256_S256x256_0_0⟩,
    ⟨S256x256, extractStridedSlice S256x256 ![256, 0] b slices_S512x256_S256x256_256_0⟩] concatenates_S256x256_S256x256_S512x256_d0

theorem halvesOf_apply (a b : FVec Ideal S512x256 .f32) (i : S512x256.Idx) :
    halvesOf a b i = if (i 0).val / 256 = 0 then a i else b i := by
  have h0 : (i 0).val < 512 := (i 0).isLt
  unfold halvesOf
  split
  · rename_i h
    rw [concatenate_pair_apply_left (s₁ := S256x256) (s₂ := S256x256) (0 : Fin 2) _ _ _ i rfl (ix2 (⟨(i 0).val, by omega⟩ : Fin 256) (i 1 : Fin 256)) (fun a => by fin_cases a <;> rfl)]
    exact extractStridedSlice_apply _ _ _ _ i (fun a => by fin_cases a <;> exact (Nat.zero_add _).symm)
  · rename_i h
    rw [concatenate_pair_apply_right (s₁ := S256x256) (s₂ := S256x256) (0 : Fin 2) _ _ _ i rfl rfl (ix2 (⟨(i 0).val - 256, by omega⟩ : Fin 256) (i 1 : Fin 256))
      (fun a ha => by fin_cases a; exact absurd rfl ha; rfl) (show (i 0).val - 256 + 256 = (i 0).val by omega)]
    exact extractStridedSlice_apply _ _ _ _ i (fun a => by
      fin_cases a
      · show (i 0).val = 256 + ((i 0).val - 256)
        omega
      · exact (Nat.zero_add _).symm)

/-- One array above another. -/
theorem stack_apply (a b : FVec Ideal S512x256 .f32) (h : Shape.Concatenates [S512x256, S512x256] S1024x256 0) (i : S1024x256.Idx) :
    concatenate S1024x256 0 [⟨S512x256, a⟩, ⟨S512x256, b⟩] h i = if (i 0).val / 512 = 0 then a (inStack i) else b (inStack i) := by
  have h0 : (i 0).val < 1024 := (i 0).isLt
  split
  · rename_i h
    exact concatenate_pair_apply_left (s₁ := S512x256) (s₂ := S512x256) (0 : Fin 2) _ _ _ i rfl (inStack i) (fun a => by
      fin_cases a
      · show (i 0).val % 512 = (i 0).val
        omega
      · rfl)
  · rename_i h
    exact concatenate_pair_apply_right (s₁ := S512x256) (s₂ := S512x256) (0 : Fin 2) _ _ _ i rfl rfl (inStack i)
      (fun a ha => by fin_cases a; exact absurd rfl ha; rfl) (by show (i 0).val % 512 + 512 = (i 0).val; omega)

/-- The reference's result is `gathered` of its argument. -/
theorem reference_value (x : FVec Ideal S512x256 .f32) :
    concatenate S1024x256 0 [⟨S512x256, halvesOf x (hostCoarse x)⟩, ⟨S512x256, halvesOf (hostCoarse x) x⟩] concatenates_S512x256_S512x256_S1024x256_d0
      = gathered x := by
  funext i
  have h0 : (i 0).val < 1024 := (i 0).isLt
  have hs : (inStack i 0).val < 512 := (inStack i 0).isLt
  rw [stack_apply]
  unfold gathered heldAt
  by_cases h : (i 0).val / 512 = 0
  · rw [if_pos h, h, halvesOf_apply, hostCoarse_apply]
  · have h1 : (i 0).val / 512 = 1 := by omega
    rw [if_neg h, h1, halvesOf_apply, hostCoarse_apply]
    by_cases hr : (inStack i 0).val / 256 = 0
    · rw [if_pos hr, if_neg (by omega)]
    · rw [if_neg hr, if_pos (by omega)]

/-! ## How near it is -/

/-- What `near_the_gathered_array` says of an element of the result and the element of x it is to be near. -/
def nearBit (x y : EReal) : BitVec 1 :=
  Ideal.cmp .ogt (max x (-x)) (Ideal.ofBits .f32 0x40A00000#32) ||| Ideal.cmp .ole (max (y - x) (-(y - x))) (Ideal.ofBits .f32 0x3CA161E5#32)

theorem near_of_far (x y : EReal) (h : Ideal.ofBits .f32 0x40A00000#32 < max x (-x)) : nearBit x y = 1#1 := by
  unfold nearBit
  have : Ideal.cmp .ogt (max x (-x)) (Ideal.ofBits .f32 0x40A00000#32) = 1#1 := by
    show BitVec.ofBool (decide _) = _
    rw [decide_eq_true h]; rfl
  rw [this]
  generalize Ideal.cmp .ole _ _ = b
  revert b; decide

theorem near_of_near (x y : EReal) (h : max (y - x) (-(y - x)) ≤ Ideal.ofBits .f32 0x3CA161E5#32) : nearBit x y = 1#1 := by
  unfold nearBit
  have : Ideal.cmp .ole (max (y - x) (-(y - x))) (Ideal.ofBits .f32 0x3CA161E5#32) = 1#1 := by
    show BitVec.ofBool (decide _) = _
    rw [decide_eq_true h]; rfl
  rw [this]
  generalize Ideal.cmp .ogt _ _ = b
  revert b; decide

/-- It holds of two reals whose difference is at most 0.0197. -/
theorem near_of_real (r q : ℝ) (h : |q - r| ≤ 10576357 / 536870912) : nearBit (r : EReal) (q : EReal) = 1#1 := by
  apply near_of_near
  rw [literal_bound, ← EReal.coe_sub, ← EReal.coe_neg, ← EReal.coe_strictMono.monotone.map_max]
  exact EReal.coe_le_coe_iff.2 h

/-- It holds of an element and itself, and of an element and itself quantised and read back. -/
theorem near_both (x : EReal) : nearBit x x = 1#1 ∧ nearBit x (coarse x) = 1#1 := by
  by_cases hx : Ideal.ofBits .f32 0x40A00000#32 < max x (-x)
  · exact ⟨near_of_far x _ hx, near_of_far x _ hx⟩
  · rw [literal_five] at hx
    induction x using EReal.rec with
    | bot => exact absurd (lt_of_lt_of_le (EReal.coe_lt_top 5) (le_max_right _ _)) hx
    | top => exact absurd (lt_of_lt_of_le (EReal.coe_lt_top 5) (le_max_left _ _)) hx
    | coe r =>
      rw [← EReal.coe_neg, ← EReal.coe_strictMono.monotone.map_max, EReal.coe_lt_coe_iff, not_lt] at hx
      obtain ⟨q, hq, hqr⟩ := coarse_near r hx
      exact ⟨near_of_real r r (by rw [sub_self, abs_zero]; norm_num), hq ▸ near_of_real r q hqr⟩

/-- The facts the postcondition's two shape relations state. -/
theorem postFacts : Cert.Post_near_the_gathered_array.Facts where
  concatenates_S512x256_S512x256_S1024x256_d0 := by decide
  bcast_S_S1024x256 := by decide

/-- The postcondition holds of x and `gathered x`, at every element. -/
theorem gathered_near (x : FVec Ideal S512x256 .f32) :
    (haveI := postFacts; Cert.Post_near_the_gathered_array.fn (F := Ideal) x (gathered x)) = fun _ => 1#1 := by
  funext i
  have hstack := stack_apply x x postFacts.concatenates_S512x256_S512x256_S1024x256_d0 i
  rw [ite_self] at hstack
  show nearBit (concatenate S1024x256 0 [⟨S512x256, x⟩, ⟨S512x256, x⟩] postFacts.concatenates_S512x256_S512x256_S1024x256_d0 i) (gathered x i) = 1#1
  rw [hstack]
  unfold gathered heldAt
  split
  · exact (near_both _).1
  · exact (near_both _).2

end Cert.Exchange

end
-- ==== Proof.Result.lean ====
/-
# The kernel's result

Over any float values, the block a device stages is its input array, and the array it writes out is `outAt`: its own
block in its own half, its partner's block quantised and read back in the other. Over the extended reals, where device
`c`'s input array is its block of a whole array `x`, that is `heldAt (c / 2) x`, and so device `c`'s block of
`gathered x` (`result_gathered`).
-/
module

public import proofs.«01_k».proof.Proof.Launch
public import proofs.«01_k».proof.Proof.Gathered

@[expose] public section

noncomputable section

namespace Cert.Exchange

open Cert.KernelIdeal Cert.KernelIdeal.Gen
open Idealize.ShloMosaic Idealize.ShloMosaic.TcCoe Idealize.ShloMosaic.ValueIdx Idealize.SL.Sem

section AnyFloat

variable {F : FTy → Type} [FloatOps F] (m : (ℓ : Loc nD τ sig) → Buf (Elt F) ℓ)

/-- The block a device stages is the whole of its input array. -/
theorem block_eq (c : Dev nD) : block m c = m ((c : Thread nD τ).loc main_arg0) :=
  funext fun i => congrArg (m ((c : Thread nD τ).loc main_arg0)) (funext fun a => Fin.ext (by
    fin_cases a
    · exact (ValueKit.rect_emb_unit_val (s := S256x256) _ _ _ i 0).trans (Nat.zero_add _)
    · exact (ValueKit.rect_emb_unit_val (s := S256x256) _ _ _ i 1).trans (Nat.zero_add _)))

/-- An element of the result's one block is the element of the result at the same place. -/
theorem result_place (i : S512x256.Idx) : (win0_1.blk (0 : Fin 1)).view.emb i = i :=
  funext fun a => Fin.ext (by
    fin_cases a
    · exact (ValueKit.rect_emb_unit_val (s := S512x256) _ _ _ i 0).trans (Nat.zero_add _)
    · exact (ValueKit.rect_emb_unit_val (s := S512x256) _ _ _ i 1).trans (Nat.zero_add _))

/-- What is written out is the result, read as its one block. -/
theorem flushed_result (c : Dev nD) (t : Fin cfg0.N) :
    (dats m 0 c).flushed (1 : Fin 2) t = ((cfg0.win (1 : Fin 2)).blk t).view.read (Elt F) (outAt m c) := by
  obtain rfl := fin_N0 t
  exact funext fun i => (congrArg (outAt m c) (result_place i)).symm

/-- The result array after the run. -/
theorem final_result (c : Dev nD) : finalArr m c (1 : Fin 2) = outAt m c :=
  (dats m 0 c).arrAt_eq_of_cover (1 : Fin 2) (outAt m c) (fun t _ => flushed_result m c t) fun i =>
    ⟨t0_0, rfl, by
      have h := (win0_1.blk (0 : Fin 1)).view.emb_mem_set i
      rw [result_place i] at h
      exact h⟩

end AnyFloat

/-! ## Over the extended reals -/

variable (m : (ℓ : Loc nD τ sig) → Buf (Elt Ideal) ℓ)

/-- A block quantised by the kernel and read back: each element is the element quantised and read back. -/
theorem pay_coarse (v : FVec Ideal S256x256 .f32) (j : S256x256.Idx) : k0_pay1 (F := Ideal) (k0_pay2 (F := Ideal) v) j = coarse (v j) := by
  unfold k0_pay1 k0_pay2
  simp only [shapeCast_self]
  rfl

/-- Device `c`'s block of the whole input, and of the stacked result. -/
abbrev inBlock (c : Dev nD) (x : FVec Ideal S512x256 .f32) : FVec Ideal S256x256 .f32 :=
  Layout.blockN ⟨2, ![256, 256]⟩ ⟨2, ![512, 256]⟩ (Layout.meshBlock [2, 2] ![[0], []] c) x
abbrev outBlock (c : Dev nD) (v : FVec Ideal ⟨2, ![1024, 256]⟩ .f32) : FVec Ideal S512x256 .f32 :=
  Layout.blockN ⟨2, ![512, 256]⟩ ⟨2, ![1024, 256]⟩ (Layout.meshBlock [2, 2] ![[0], []] c) v

/-- The mesh places device `c` at position `c / 2` of the axis the rows are cut along, and cuts no columns. -/
theorem mesh_row (c : Dev nD) : Layout.meshLin [2, 2] c.val [0] = c.val / 2 := by revert c; decide

/-- An element of device `c`'s block of the input. -/
theorem inBlock_apply (c : Dev nD) (x : FVec Ideal S512x256 .f32) (j : S256x256.Idx) (i : S512x256.Idx)
    (h0 : (i 0).val = 256 * (c.val / 2) + (j 0).val) (h1 : (i 1).val = (j 1).val) : inBlock c x j = x i :=
  congrArg x (funext fun a => Fin.ext (by
    fin_cases a
    · show Layout.meshLin [2, 2] c.val [0] * 256 + (j 0).val = (i 0).val
      rw [mesh_row, h0, Nat.mul_comm]
    · show 0 * 256 + (j 1).val = (i 1).val
      omega))

/-- An element of device `c`'s block of the stacked result is the element of the array as its position holds it. -/
theorem outBlock_gathered (c : Dev nD) (x : FVec Ideal S512x256 .f32) (i : S512x256.Idx) :
    outBlock c (gathered x) i = heldAt (c.val / 2) x i := by
  have hi : (i 0).val < 512 := (i 0).isLt
  have h0 : ∀ k : ReferenceIdeal.S1024x256.Idx, (k 0).val = 512 * (c.val / 2) + (i 0).val → (k 1).val = (i 1).val →
      gathered x k = heldAt (c.val / 2) x i := by
    intro k hk0 hk1
    have e1 : (k 0).val / 512 = c.val / 2 := by omega
    have e2 : inStack k = i := funext fun a => Fin.ext (by
      fin_cases a
      · show (k 0).val % 512 = (i 0).val
        omega
      · exact hk1)
    unfold gathered
    rw [e1, e2]
  refine h0 _ ?_ ?_
  · show Layout.meshLin [2, 2] c.val [0] * 512 + (i 0).val = _
    rw [mesh_row, Nat.mul_comm]
  · show 0 * 256 + (i 1).val = (i 1).val
    omega

/-- The partner stands at the other position. -/
theorem peer_pos (c : Dev nD) : (peer c).val / 2 = 1 - c.val / 2 := by revert c; decide

/-- Where every device's input array is its block of `x`, every device's result is its block of `gathered x`. -/
theorem result_gathered (x : FVec Ideal S512x256 .f32) (hx : ∀ c : Dev nD, m ((c : Thread nD τ).loc main_arg0) = inBlock c x) (c : Dev nD) :
    outAt m c = outBlock c (gathered x) := by
  funext i
  have hi : (i 0).val < 512 := (i 0).isLt
  have hc := pos_lt c
  rw [outBlock_gathered]
  unfold outAt halves heldAt coded
  by_cases h : (i 0).val / 256 = c.val / 2
  · rw [if_pos h, if_pos h, block_eq, hx]
    exact inBlock_apply c x (low i) i (show (i 0).val = 256 * (c.val / 2) + (i 0).val % 256 by omega) rfl
  · rw [if_neg h, if_neg h, pay_coarse, block_eq, hx]
    exact congrArg coarse (inBlock_apply (peer c) x (low i) i
      (show (i 0).val = 256 * ((peer c).val / 2) + (i 0).val % 256 by rw [peer_pos]; omega) rfl)

end Cert.Exchange

end
-- ==== Proof.Claims.lean ====
/-
# The claims, from the runs

The kernel's run (`run_main`) is proved once, over any float values: its frame is read off at both instances, the
kernel and its idealisation having the same text. The reference's run gives its frame, its value and its nearness to
the gathered array; the kernel's value and the reference's meet at `gathered` of the whole input.
-/
module

public import proofs.«01_k».proof.Proof.Result
public import proofs.«01_k».proof.Proof.Gen.Kernel
public import proofs.«01_k».proof.Proof.Gen.Kernel.Launch
public import Idealize.ShloMosaic.Lib.Tactic

@[expose] public section

noncomputable section

namespace Cert.Exchange

open Idealize.ShloMosaic Idealize.ShloMosaic.TcCoe Idealize.SL.Sem

attribute [local instance] postFacts

/-- Over any float values the kernel runs, leaves its input as it was, and ends with every semaphore at zero. -/
theorem input_kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem ((c : Thread Cert.KernelIdeal.nD Cert.KernelIdeal.τ).loc Cert.KernelIdeal.main_arg0)
          = m ((c : Thread Cert.KernelIdeal.nD Cert.KernelIdeal.τ).loc Cert.KernelIdeal.main_arg0))
      ∧ r.2.sem = fun _ => 0 :=
  (θ_run Cert.KernelIdeal.defs _ _).mono (fun _ h => ⟨fun c => (h.1 c (0 : Fin 2)).trans (final_input m c), h.2⟩) (run_main m ρ)

/-- The body tables of the kernel and of its idealisation are one: they have one label, at which the two bodies are the
same text. -/
theorem bodies_same : Cert.Kernel.defs₀ (F := Bits) = Cert.KernelIdeal.defs₀ (F := Bits) := by
  unfold Cert.Kernel.defs₀ Cert.KernelIdeal.defs₀
  congr 1
  funext l p
  match l, p with
  | 0, (t, s) => rfl

theorem defs_same : Cert.Kernel.defs (F := Bits) = Cert.KernelIdeal.defs (F := Bits) :=
  congrArg (Pipeline.defs Cert.KernelIdeal.pcfgs) bodies_same

/-- The frame of the kernel. -/
theorem frame_kernel : Cert.quiescent_Kernel := fun m ρ _ => by
  rw [defs_same]
  exact input_kept (F := Bits) m ρ

/-- The frame of its idealisation. -/
theorem frame_ideal : Cert.quiescent_KernelIdeal := fun m ρ _ => input_kept (F := Ideal) m ρ

/-- The frame of the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference ends with `gathered` of its argument, and its argument as it was. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c : Thread Cert.ReferenceIdeal.nD Cert.ReferenceIdeal.τ).loc Cert.ReferenceIdeal.main_v16)
            = gathered (m ((c : Thread Cert.ReferenceIdeal.nD Cert.ReferenceIdeal.τ).loc Cert.ReferenceIdeal.main_arg0))
        ∧ r.2.mem ((c : Thread Cert.ReferenceIdeal.nD Cert.ReferenceIdeal.τ).loc Cert.ReferenceIdeal.main_arg0)
            = m ((c : Thread Cert.ReferenceIdeal.nD Cert.ReferenceIdeal.τ).loc Cert.ReferenceIdeal.main_arg0) :=
  (θ_run Cert.ReferenceIdeal.defs _ _).mono (fun r h c => ⟨(h c).1.trans (reference_value _), (h c).2⟩)
    (Cert.ReferenceIdeal.Value.run (F := Ideal) m ρ)

/-- The kernel's results are the blocks of the reference's result. -/
theorem value : Cert.algebraic_KernelIdeal_ReferenceIdeal := fun m ρ m' ρ' _ hx =>
  ⟨gathered (m' (((0 : Dev Cert.ReferenceIdeal.nD).tc : Thread Cert.ReferenceIdeal.nD Cert.ReferenceIdeal.τ).loc Cert.ReferenceIdeal.main_arg0)),
    (θ_run Cert.KernelIdeal.defs _ _).mono
      (fun r h c => ⟨((h.1 c (1 : Fin 2)).trans (final_result m c)).trans (result_gathered m _ hx c), (h.1 c (0 : Fin 2)).trans (final_input m c)⟩)
      (run_main (F := Ideal) m ρ),
    (θ_run Cert.ReferenceIdeal.defs _ _).mono (fun r h => h 0) (reference_run m' ρ')⟩

/-- The reference's result is near the gathered array. -/
theorem near : Cert.holds_ReferenceIdeal_near_the_gathered_array := fun m ρ _ =>
  (θ_run Cert.ReferenceIdeal.defs _ _).mono (fun r h c => ⟨(h c).2, (congrArg _ (h c).1).trans (gathered_near _)⟩) (reference_run m ρ)

end Cert.Exchange

end
-- ==== Proof.lean ====
/-
# The certificate

The facts the programs and the postcondition state, and the six claims: the frames of the kernel, of its idealisation
and of the reference, that idealising preserved the kernel, that the kernel computes the reference, and that the
reference is near the gathered array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Cert.Exchange

/-- Every claim holds. -/
theorem claim : Cert.Claim :=
  ⟨Cert.Kernel.Gen.facts, Cert.KernelIdeal.Gen.facts, Cert.ReferenceIdeal.Gen.facts, postFacts,
    frame_kernel, frame_ideal, frame_reference, trivial, value, near⟩

end Cert.Proof

end
